-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2, 4] ![[0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 4] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v51) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S1x512 : Shape := ⟨2, ![1, 512]⟩
abbrev S4 : Shape := ⟨1, ![4]⟩
abbrev S4x1 : Shape := ⟨2, ![4, 1]⟩
abbrev S4x512 : Shape := ⟨2, ![4, 512]⟩
abbrev S_ : Shape := ⟨0, ![]⟩

class Facts : Prop where
  bcast_S512_S1x512_1 : S512.BroadcastsInDim S1x512 (![1] : Fin 1 → Fin S1x512.rank)
  bcast_S4_S4x1_0 : S4.BroadcastsInDim S4x1 (![0] : Fin 1 → Fin S4x1.rank)
  bcast_S1x512_S4x512_0_1 : S1x512.BroadcastsInDim S4x512 (![0, 1] : Fin 2 → Fin S4x512.rank)
  bcast_S4x1_S4x512_0_1 : S4x1.BroadcastsInDim S4x512 (![0, 1] : Fin 2 → Fin S4x512.rank)
  natLt_1_32 : 1 < 32
  reducesTo_S4x512_S4_d1 : S4x512.ReducesTo [1] S4
  h_S_ : 0 < S_.numel
  bcast_S_S4 : S_.BroadcastsInDim S4 (![] : Fin 0 → Fin S4.rank)

variable [Facts]

def fn {F : FTy → Type} [FloatOps F] (main_arg0 : FVec F S512x512 .bf16) (main_arg1 : IVec S512 32) (main_arg2 : FVec F S2x512x1024 .bf16) (main_arg3 : FVec F S2x1024x512 .bf16) : IVec S4 1 :=
  let main_v0 : IVec S1x512 32 := broadcastInDim S1x512 ![1] bcast_S512_S1x512_1 main_arg1
  let main_v1 : IVec S4 32 := iotaInDim S4 32 0
  let main_v2 : IVec S4x1 32 := broadcastInDim S4x1 ![0] bcast_S4_S4x1_0 main_v1
  let main_v3 : IVec S4x512 32 := broadcastInDim S4x512 ![0, 1] bcast_S1x512_S4x512_0_1 main_v0
  let main_v4 : IVec S4x512 32 := broadcastInDim S4x512 ![0, 1] bcast_S4x1_S4x512_0_1 main_v2
  let main_v5 : IVec S4x512 1 := cmpi .eq main_v3 main_v4
  let main_v6 : IVec S4x512 32 := (extui 32 · natLt_1_32) main_v5
  let main_c : IVec S_ 32 := constantI S_ 32 0#32
  let main_v7 : IVec S4 32 := (fun x v => Host.reduce IntOp.addi x v reducesTo_S4x512_S4_d1 h_S_) main_v6 main_c
  let main_c_0 : IVec S_ 32 := constantI S_ 32 144#32
  let main_v8 : IVec S4 32 := broadcastInDim S4 ![] bcast_S_S4 main_c_0
  let main_v9 : IVec S4 1 := cmpi .sle main_v7 main_v8
  main_v9
-- ==== Pre_fits_ReferenceIdeal.lean ====
abbrev S1024x512 : Shape := ⟨2, ![1024, 512]⟩
abbrev S1024 : Shape := ⟨1, ![1024]⟩
abbrev S4x512x1024 : Shape := ⟨3, ![4, 512, 1024]⟩
abbrev S4x1024x512 : Shape := ⟨3, ![4, 1024, 512]⟩
abbrev S1x1024 : Shape := ⟨2, ![1, 1024]⟩
abbrev S4 : Shape := ⟨1, ![4]⟩
abbrev S4x1 : Shape := ⟨2, ![4, 1]⟩
abbrev S4x1024 : Shape := ⟨2, ![4, 1024]⟩
abbrev S_ : Shape := ⟨0, ![]⟩

class Facts : Prop where
  bcast_S1024_S1x1024_1 : S1024.BroadcastsInDim S1x1024 (![1] : Fin 1 → Fin S1x1024.rank)
  bcast_S4_S4x1_0 : S4.BroadcastsInDim S4x1 (![0] : Fin 1 → Fin S4x1.rank)
  bcast_S1x1024_S4x1024_0_1 : S1x1024.BroadcastsInDim S4x1024 (![0, 1] : Fin 2 → Fin S4x1024.rank)
  bcast_S4x1_S4x1024_0_1 : S4x1.BroadcastsInDim S4x1024 (![0, 1] : Fin 2 → Fin S4x1024.rank)
  natLt_1_32 : 1 < 32
  reducesTo_S4x1024_S4_d1 : S4x1024.ReducesTo [1] S4
  h_S_ : 0 < S_.numel
  bcast_S_S4 : S_.BroadcastsInDim S4 (![] : Fin 0 → Fin S4.rank)

variable [Facts]

def fn {F : FTy → Type} [FloatOps F] (main_arg0 : FVec F S1024x512 .bf16) (main_arg1 : IVec S1024 32) (main_arg2 : FVec F S4x512x1024 .bf16) (main_arg3 : FVec F S4x1024x512 .bf16) : IVec S4 1 :=
  let main_v0 : IVec S1x1024 32 := broadcastInDim S1x1024 ![1] bcast_S1024_S1x1024_1 main_arg1
  let main_v1 : IVec S4 32 := iotaInDim S4 32 0
  let main_v2 : IVec S4x1 32 := broadcastInDim S4x1 ![0] bcast_S4_S4x1_0 main_v1
  let main_v3 : IVec S4x1024 32 := broadcastInDim S4x1024 ![0, 1] bcast_S1x1024_S4x1024_0_1 main_v0
  let main_v4 : IVec S4x1024 32 := broadcastInDim S4x1024 ![0, 1] bcast_S4x1_S4x1024_0_1 main_v2
  let main_v5 : IVec S4x1024 1 := cmpi .eq main_v3 main_v4
  let main_v6 : IVec S4x1024 32 := (extui 32 · natLt_1_32) main_v5
  let main_c : IVec S_ 32 := constantI S_ 32 0#32
  let main_v7 : IVec S4 32 := (fun x v => Host.reduce IntOp.addi x v reducesTo_S4x1024_S4_d1 h_S_) main_v6 main_c
  let main_c_0 : IVec S_ 32 := constantI S_ 32 144#32
  let main_v8 : IVec S4 32 := broadcastInDim S4 ![] bcast_S_S4 main_c_0
  let main_v9 : IVec S4 1 := cmpi .sle main_v7 main_v8
  main_v9
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S288x512 : Shape := ⟨2, ![288, 512]⟩
abbrev S4 : Shape := ⟨1, ![4]⟩
abbrev S_ : Shape := ⟨0, ![]⟩
abbrev S144x512 : Shape := ⟨2, ![144, 512]⟩
abbrev S2x1 : Shape := ⟨2, ![2, 1]⟩
abbrev S1x512 : Shape := ⟨2, ![1, 512]⟩
abbrev S2x512 : Shape := ⟨2, ![2, 512]⟩
abbrev S1 : Shape := ⟨1, ![1]⟩
abbrev S1x512x1024 : Shape := ⟨3, ![1, 512, 1024]⟩
abbrev S512x1024 : Shape := ⟨2, ![512, 1024]⟩
abbrev S144x1024 : Shape := ⟨2, ![144, 1024]⟩
abbrev S1x1024x512 : Shape := ⟨3, ![1, 1024, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S512x512, .bf16⟩
  | .hbm, ⟨1, _⟩ => ⟨S512, .i32⟩
  | .hbm, ⟨2, _⟩ => ⟨S2x512x1024, .bf16⟩
  | .hbm, ⟨3, _⟩ => ⟨S2x1024x512, .bf16⟩
  | .hbm, ⟨4, _⟩ => ⟨S512x512, .f32⟩
  | .local _ .vmem, ⟨0, _⟩ => ⟨S512x512, .bf16⟩
  | .local _ .vmem, ⟨1, _⟩ => ⟨S512, .i32⟩
  | .local _ .vmem, ⟨2, _⟩ => ⟨S2x512x1024, .bf16⟩
  | .local _ .vmem, ⟨3, _⟩ => ⟨S2x1024x512, .bf16⟩
  | .local _ .vmem, ⟨4, _⟩ => ⟨S512x512, .f32⟩
  | .local _ .vmem, ⟨5, _⟩ => ⟨S512x512, .bf16⟩
  | .local _ .vmem, ⟨6, _⟩ => ⟨S288x512, .bf16⟩
  | .local _ .vmem, ⟨7, _⟩ => ⟨S288x512, .bf16⟩
  | .local _ .vmem, ⟨8, _⟩ => ⟨S288x512, .bf16⟩
  | .local _ .vmem, ⟨9, _⟩ => ⟨S288x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_33 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_32 : BitVec 32 := 8#32
  let v107 : BitVec 32 := Scalar.muli v9 c8_i32_32
  let v108 : BitVec 32 := Scalar.addi c0_i32_33 v107
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v109 : BitVec 32 := Scalar.muli v5 c4_i32_34
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v111 : BitVec 32 := Scalar.muli v8 c1_i32_35
  let v112 : BitVec 32 := Scalar.addi v110 v111
  v112.toNat
def k0_dev3 (d0 : Dev nD) : Nat :=
  let c0_i32_43 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_42 : BitVec 32 := 8#32
  let v119 : BitVec 32 := Scalar.muli v9 c8_i32_42
  let v120 : BitVec 32 := Scalar.addi c0_i32_43 v119
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_44 : BitVec 32 := 4#32
  let v121 : BitVec 32 := Scalar.muli v5 c4_i32_44
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v123 : BitVec 32 := Scalar.muli v8 c1_i32_45
  let v124 : BitVec 32 := Scalar.addi v122 v123
  v124.toNat
def k0_dev4 (d0 : Dev nD) : Nat :=
  let c0_i32_75 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_74 : BitVec 32 := 8#32
  let v155 : BitVec 32 := Scalar.muli v9 c8_i32_74
  let v156 : BitVec 32 := Scalar.addi c0_i32_75 v155
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v157 : BitVec 32 := Scalar.muli v5 c4_i32_76
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v159 : BitVec 32 := Scalar.muli v8 c1_i32_77
  let v160 : BitVec 32 := Scalar.addi v158 v159
  v160.toNat
def k0_dev5 (d0 : Dev nD) : Nat :=
  let c0_i32_106 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_105 : BitVec 32 := 8#32
  let v191 : BitVec 32 := Scalar.muli v9 c8_i32_105
  let v192 : BitVec 32 := Scalar.addi c0_i32_106 v191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_107 : BitVec 32 := 4#32
  let v193 : BitVec 32 := Scalar.muli v5 c4_i32_107
  let v194 : BitVec 32 := Scalar.addi v192 v193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v195 : BitVec 32 := Scalar.muli v8 c1_i32_108
  let v196 : BitVec 32 := Scalar.addi v194 v195
  v196.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S1024 : Shape := ⟨1, ![1024]⟩
abbrev S4x512x1024 : Shape := ⟨3, ![4, 512, 1024]⟩
abbrev S4x1024x512 : Shape := ⟨3, ![4, 1024, 512]⟩
abbrev S_ : Shape := ⟨0, ![]⟩
abbrev S1x512x1024 : Shape := ⟨3, ![1, 512, 1024]⟩
abbrev S512x1024 : Shape := ⟨2, ![512, 1024]⟩
abbrev S1024x1024 : Shape := ⟨2, ![1024, 1024]⟩
abbrev S1024x1 : Shape := ⟨2, ![1024, 1]⟩
abbrev S1x1024x512 : Shape := ⟨3, ![1, 1024, 512]⟩

abbrev nBuf : Space → Nat
  | .hbm => 69
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024, .i32⟩
  | .hbm, ⟨2, _⟩ => ⟨S4x512x1024, .bf16⟩
  | .hbm, ⟨3, _⟩ => ⟨S4x1024x512, .bf16⟩
  | .hbm, ⟨4, _⟩ => ⟨S1024x512, .f32⟩
  | .hbm, ⟨5, _⟩ => ⟨S4x512x1024, .f32⟩
  | .hbm, ⟨6, _⟩ => ⟨S4x1024x512, .f32⟩
  | .hbm, ⟨7, _⟩ => ⟨S_, .f32⟩
  | .hbm, ⟨8, _⟩ => ⟨S1024x512, .f32⟩
  | .hbm, ⟨9, _⟩ => ⟨S1x512x1024, .f32⟩
  | .hbm, ⟨10, _⟩ => ⟨S512x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024x1, .i1⟩
  | .hbm, ⟨19, _⟩ => ⟨S1x1024x512, .f32⟩
  | .hbm, ⟨20, _⟩ => ⟨S1024x512, .f32⟩
  | .hbm, ⟨21, _⟩ => ⟨S1024x512, .f32⟩
  | .hbm, ⟨22, _⟩ => ⟨S1024x512, .i1⟩
  | .hbm, ⟨23, _⟩ => ⟨S1024x512, .f32⟩
  | .hbm, ⟨24, _⟩ => ⟨S1x512x1024, .f32⟩
  | .hbm, ⟨25, _⟩ => ⟨S512x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S1024x1, .i1⟩
  | .hbm, ⟨34, _⟩ => ⟨S1x1024x512, .f32⟩
  | .hbm, ⟨35, _⟩ => ⟨S1024x512, .f32⟩
  | .hbm, ⟨36, _⟩ => ⟨S1024x512, .f32⟩
  | .hbm, ⟨37, _⟩ => ⟨S1024x512, .i1⟩
  | .hbm, ⟨38, _⟩ => ⟨S1024x512, .f32⟩
  | .hbm, ⟨39, _⟩ => ⟨S1x512x1024, .f32⟩
  | .hbm, ⟨40, _⟩ => ⟨S512x1024, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S1024x1, .i1⟩
  | .hbm, ⟨49, _⟩ => ⟨S1x1024x512, .f32⟩
  | .hbm, ⟨50, _⟩ => ⟨S1024x512, .f32⟩
  | .hbm, ⟨51, _⟩ => ⟨S1024x512, .f32⟩
  | .hbm, ⟨52, _⟩ => ⟨S1024x512, .i1⟩
  | .hbm, ⟨53, _⟩ => ⟨S1024x512, .f32⟩
  | .hbm, ⟨54, _⟩ => ⟨S1x512x1024, .f32⟩
  | .hbm, ⟨55, _⟩ => ⟨S512x1024, .f32⟩
  | .hbm, ⟨56, _⟩ => ⟨S1024x1024, .f32⟩
  | .hbm, ⟨57, _⟩ => ⟨S_, .f32⟩
  | .hbm, ⟨58, _⟩ => ⟨S1024x1024, .f32⟩
  | .hbm, ⟨59, _⟩ => ⟨S1024x1024, .f32⟩
  | .hbm, ⟨60, _⟩ => ⟨S_, .i32⟩
  | .hbm, ⟨61, _⟩ => ⟨S1024, .i32⟩
  | .hbm, ⟨62, _⟩ => ⟨S1024, .i1⟩
  | .hbm, ⟨63, _⟩ => ⟨S1024x1, .i1⟩
  | .hbm, ⟨64, _⟩ => ⟨S1x1024x512, .f32⟩
  | .hbm, ⟨65, _⟩ => ⟨S1024x512, .f32⟩
  | .hbm, ⟨66, _⟩ => ⟨S1024x512, .f32⟩
  | .hbm, ⟨67, _⟩ => ⟨S1024x512, .i1⟩
  | .hbm, ⟨68, _⟩ => ⟨S1024x512, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call1_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call2_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call3_v0 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Proof.Proto.lean ====
/-
The exchange protocol of the two-way expert kernel.

Every device has one partner, the device at the other coordinate of the mesh's first axis. A device hands its
partner its two landing buffers (a barrier unit), sends two blocks of rows gathered for the partner's experts, and
gets two blocks of results back. This module names the cells, the values that travel, what each arrival hands over,
what each device owes, and the order of the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Partners -/

set_option backward.proofsInPublic true in
/-- The device at the other coordinate of the first mesh axis. -/
def peer (c : Dev nD) : Dev nD := ⟨(c.val + 8) % 16, Nat.mod_lt _ (by decide)⟩

theorem peer_peer (c : Dev nD) : peer (peer c) = c := by revert c; decide

theorem dev1_eq (c : Dev nD) : (⟨k0_dev1 c, k0_dev1_lt c⟩ : Dev nD) = peer c := by revert c; decide
theorem dev2_eq (c : Dev nD) : (⟨k0_dev2 c, k0_dev2_lt c⟩ : Dev nD) = peer c := by revert c; decide
theorem dev3_eq (c : Dev nD) : (⟨k0_dev3 c, k0_dev3_lt c⟩ : Dev nD) = peer c := by revert c; decide
theorem dev4_eq (c : Dev nD) : (⟨k0_dev4 c, k0_dev4_lt c⟩ : Dev nD) = peer c := by revert c; decide
theorem dev5_eq (c : Dev nD) : (⟨k0_dev5 c, k0_dev5_lt c⟩ : Dev nD) = peer c := by revert c; decide

/-! ## Buffers and cells -/

/-- The two halves of a buffer of 288 rows: rows 0 to 143 and rows 144 to 287. -/
abbrev r0 : Rect S288x512 := Rect.unit (s := S288x512) ![0, 0] S144x512.size inb_S288x512_S144x512_0_0
abbrev r1 : Rect S288x512 := Rect.unit (s := S288x512) ![144, 0] S144x512.size inb_S288x512_S144x512_144_0

/-- Rows gathered for the partner, rows received, results for the partner, results received. -/
abbrev sM : Memref sig .tc .vmem S288x512 .bf16 := Memref.whole cc0_scratch1
abbrev rM : Memref sig .tc .vmem S288x512 .bf16 := Memref.whole cc0_scratch2
abbrev cM : Memref sig .tc .vmem S288x512 .bf16 := Memref.whole cc0_scratch3
abbrev vM : Memref sig .tc .vmem S288x512 .bf16 := Memref.whole cc0_scratch4

/-- The upper and the lower half of such a buffer, as the transfers name them. -/
abbrev lo (M : Memref sig .tc .vmem S288x512 .bf16) : Memref sig .tc .vmem S144x512 .bf16 := M.slice r0 (fun _ => rfl)
abbrev hi (M : Memref sig .tc .vmem S288x512 .bf16) : Memref sig .tc .vmem S144x512 .bf16 := M.slice r1 (fun _ => rfl)

abbrev barS : Sem sig := (SemArray.scalar (sig.barrier 0 rfl) : Sems sig S_).sem

/-- The nine cells of a device: the barrier, the four send semaphores, the four receive semaphores. -/
def csem : Fin 9 → SemLoc sig
  | ⟨0, _⟩ => .reg barS
  | ⟨k + 1, h⟩ => .dma ⟨k + 5, by show k + 5 < 13; omega⟩

/-- The number of a cell. -/
def kof : SemLoc sig → Fin 9
  | .reg _ => 0
  | .dma q => ⟨q.val - 4, by have : q.val < 13 := q.isLt; omega⟩

theorem kof_csem (k : Fin 9) : kof (csem k) = k := by revert k; decide
theorem csem_inj {k k' : Fin 9} (h : csem k = csem k') : k = k' := by rw [← kof_csem k, h, kof_csem]

abbrev kcell (ck : Dev nD × Fin 9) : GSem nD τ sig := ((ck.1 : Thread nD τ), csem ck.2)

theorem kcell_injective : Function.Injective (kcell : Dev nD × Fin 9 → GSem nD τ sig) := by
  rintro ⟨c, k⟩ ⟨c', k'⟩ h
  have h1 : c = c' := by have := congrArg (fun g : GSem nD τ sig => g.1.1) h; exact this
  have h2 : k = k' := csem_inj (congrArg Prod.snd h)
  rw [h1, h2]

/-- The amount of one transfer's completion. -/
abbrev N : ℕ := (lo rM).view.dmaCredit
theorem N_pos : 0 < N := View.dmaCredit_pos _ (by decide)
theorem N_hi : (hi rM).view.dmaCredit = N := rfl

def amt (k : Fin 9) : ℕ := if k = 0 then 1 else N
theorem amt_pos (k : Fin 9) : 0 < amt k := by unfold amt; split; exacts [Nat.one_pos, N_pos]
theorem amt_zero : amt 0 = 1 := rfl
theorem amt_ne {k : Fin 9} (h : k ≠ 0) : amt k = N := if_neg h

/-! ## The values of the run -/

/-- What the four operands hold on device `c`, as staged for the body. -/
def xv (c : Dev nD) : Vec F S512x512 .bf16 := (win0_0.blk (0 : Fin 1)).view.read (Elt F) ((s₀ m ρ).mem ((c : Thread nD τ).loc main_arg0))
def av (c : Dev nD) : Vec F S512 .i32 := (win0_1.blk (0 : Fin 1)).view.read (Elt F) ((s₀ m ρ).mem ((c : Thread nD τ).loc main_arg1))
def w1v (c : Dev nD) : Vec F S2x512x1024 .bf16 := (win0_2.blk (0 : Fin 1)).view.read (Elt F) ((s₀ m ρ).mem ((c : Thread nD τ).loc main_arg2))
def w2v (c : Dev nD) : Vec F S2x1024x512 .bf16 := (win0_3.blk (0 : Fin 1)).view.read (Elt F) ((s₀ m ρ).mem ((c : Thread nD τ).loc main_arg3))

/-- The weights of a device's first and second expert. -/
abbrev q10 : Rect S2x512x1024 := Rect.unit (s := S2x512x1024) ![0, 0, 0] S1x512x1024.size inb_S2x512x1024_S1x512x1024_0_0_0
abbrev q11 : Rect S2x512x1024 := Rect.unit (s := S2x512x1024) ![1, 0, 0] S1x512x1024.size inb_S2x512x1024_S1x512x1024_1_0_0
abbrev q20 : Rect S2x1024x512 := Rect.unit (s := S2x1024x512) ![0, 0, 0] S1x1024x512.size inb_S2x1024x512_S1x1024x512_0_0_0
abbrev q21 : Rect S2x1024x512 := Rect.unit (s := S2x1024x512) ![1, 0, 0] S1x1024x512.size inb_S2x1024x512_S1x1024x512_1_0_0

def w10 (c : Dev nD) : Vec F S1x512x1024 .bf16 := fun j => w1v m ρ c (q10.emb j)
def w11 (c : Dev nD) : Vec F S1x512x1024 .bf16 := fun j => w1v m ρ c (q11.emb j)
def w20 (c : Dev nD) : Vec F S1x1024x512 .bf16 := fun j => w2v m ρ c (q20.emb j)
def w21 (c : Dev nD) : Vec F S1x1024x512 .bf16 := fun j => w2v m ρ c (q21.emb j)

/-- The row numbers of a block of 144 rows, the numbers 0 and 1, and the number of the device's first expert. -/
abbrev io23 : IVec S144x512 32 := iota .tc S144x512 32 [0] iota_S144x512_d0_w32
abbrev io24 : IVec S2x1 32 := iota .tc S2x1 32 [0] iota_S2x1_d0_w32
def base (c : Dev nD) : BitVec 32 := Scalar.muli (Scalar.remsi (Scalar.divsi (Dev.word c) 8#32) 2#32) 2#32

/-- The one-hot matrices of the partner's two experts and of the device's own two. -/
def P0 (c : Dev nD) : FVec F S144x512 .bf16 := k0_pay6 io23 (k0_pay2 c (av m ρ c)) (k0_pay3 c (av m ρ c)) (k0_pay4 c (av m ρ c))
def P1 (c : Dev nD) : FVec F S144x512 .bf16 := k0_pay7 io23 (k0_pay2 c (av m ρ c)) (k0_pay3 c (av m ρ c)) (k0_pay4 c (av m ρ c))
def L0 (c : Dev nD) : FVec F S144x512 .bf16 := k0_pay9 (k0_pay1 (F := F)) io23 io24 (base c) (av m ρ c)
def L1 (c : Dev nD) : FVec F S144x512 .bf16 := k0_pay10 (k0_pay1 (F := F)) io23 io24 (base c) (av m ρ c)

/-- The device's rows as the body keeps them. -/
def xl (c : Dev nD) : FVec F S512x512 .bf16 := k0_pay12 (k0_pay11 (xv m ρ c))

/-- The two blocks a device sends: its rows gathered for the partner's experts. -/
def xs0 (c : Dev nD) : FVec F S144x512 .bf16 := k0_pay13 (P0 m ρ c) (xl m ρ c)
def xs1 (c : Dev nD) : FVec F S144x512 .bf16 := k0_pay14 (P1 m ρ c) (xl m ρ c)

/-- The two blocks a device sends back: the received rows through its own experts. -/
def cs0 (c : Dev nD) : FVec F S144x512 .bf16 := k0_pay16 (k0_pay15 (xs0 m ρ (peer c)) (w10 m ρ c) (w20 m ρ c))
def cs1 (c : Dev nD) : FVec F S144x512 .bf16 :=
  k0_pay18 (xs1 m ρ (peer c)) (k0_pay17 (w11 m ρ c)) (constant S144x1024 .f32 0x00000000#32) (w21 m ρ c)

/-- The result: the device's own experts, then each block that came back. -/
def o1 (c : Dev nD) : FVec F S512x512 .f32 :=
  k0_pay21 (L0 m ρ c) (L1 m ρ c) (k0_pay19 (F := F)) (k0_pay20 (L0 m ρ c) (xl m ρ c) (w10 m ρ c)) (w20 m ρ c) (xl m ρ c) (w11 m ρ c) (w21 m ρ c)
def o2 (c : Dev nD) : FVec F S512x512 .f32 := k0_pay22 (P0 m ρ c) (o1 m ρ c) (cs0 m ρ (peer c))
def outAt (c : Dev nD) : FVec F S512x512 .f32 := k0_pay23 (P1 m ρ c) (o2 m ρ c) (cs1 m ρ (peer c))

/-! ## What is handed over -/

/-- Half a buffer held outright at the block `v`. -/
abbrev has (c : Dev nD) (M : Memref sig .tc .vmem S144x512 .bf16) (v : S144x512.Idx → Elt F .bf16) : sProp 𝕄 :=
  owns (Ix := Unit) (Name := ℕ) (U := UU) (Lvl := ℕ) (c : Thread nD τ) M fullShare v

/-- A device's two landing buffers, by halves, at any contents. -/
def landing (c : Dev nD) : sProp 𝕄 :=
  iprop((∃ v, has c (lo rM) v) ∗ (∃ v, has c (hi rM) v) ∗ (∃ v, has c (lo vM) v) ∗ (∃ v, has c (hi vM) v))

/-- What the one arrival on cell `k` of device `c` hands the device. -/
def pay (c : Dev nD) : Fin 9 → sProp 𝕄
  | 0 => landing (peer c)
  | 1 => has c (lo sM) (xs0 m ρ c)
  | 2 => has c (hi sM) (xs1 m ρ c)
  | 3 => has c (lo cM) (cs0 m ρ c)
  | 4 => has c (hi cM) (cs1 m ρ c)
  | 5 => has c (lo rM) (xs0 m ρ (peer c))
  | 6 => has c (hi rM) (xs1 m ρ (peer c))
  | 7 => has c (lo vM) (cs0 m ρ (peer c))
  | 8 => has c (hi vM) (cs1 m ρ (peer c))

instance pay_storable (c : Dev nD) (k : Fin 9) : BI.Storable (upEmb : UEmb _ 𝕄) (pay (F := F) m ρ c k) := by
  fin_cases k <;> (unfold pay; try unfold landing) <;> infer_instance

/-- One round: each of the nine cells of a device has one duty. -/
def rd : Rounds.Schedule (GSem nD τ sig) Unit 𝕄 where
  duties g r := if r = 0 ∧ g.1.2 = .tc ∧ g.2 = csem (kof g.2) then {()} else ∅
  unitless _ := False
  amount g _ _ := amt (kof g.2)
  payload g _ _ := pay m ρ g.1.1 (kof g.2)
  amount_pos g _ _ _ := amt_pos _

instance rd_payload_storable (g : GSem nD τ sig) (r : ℕ) (d : Unit) :
    BI.Storable (upEmb : UEmb _ 𝕄) ((rd (F := F) m ρ).payload g r d) := by
  show BI.Storable upEmb (pay m ρ g.1.1 (kof g.2)); infer_instance

section Sched
variable (c : Dev nD) (k : Fin 9)

omit [FloatOps F] in
theorem duties_k [FloatOps F] : (rd (F := F) m ρ).duties (kcell (c, k)) 0 = {()} := by
  dsimp only [rd]; exact if_pos ⟨rfl, rfl, by rw [kof_csem]⟩
theorem duties_later (g : GSem nD τ sig) : ∀ r, 1 ≤ r → (rd (F := F) m ρ).duties g r = ∅ :=
  fun r hr => by dsimp only [rd]; rw [if_neg fun h => by omega]
theorem amount_k (d : Unit) : (rd (F := F) m ρ).amount (kcell (c, k)) 0 d = amt k := by dsimp only [rd]; rw [kof_csem]
theorem expect_k : (rd (F := F) m ρ).expect (kcell (c, k)) 0 = amt k := by
  unfold Schedule.expect Schedule.amountOf; rw [duties_k, Finset.sum_singleton, amount_k]
theorem payload_k (d : Unit) : (rd (F := F) m ρ).payload (kcell (c, k)) 0 d = pay m ρ c k := by dsimp only [rd]; rw [kof_csem]
theorem rest_k : bigSep ((rd (F := F) m ρ).duties (kcell (c, k)) 0 \ ∅) (fun d => (rd (F := F) m ρ).payload (kcell (c, k)) 0 d) = pay m ρ c k := by
  rw [Finset.sdiff_empty, duties_k, bigSep_singleton, payload_k]

end Sched

/-! ## What a device owes, and the order of the waits -/

/-- Device `c` owes its partner's cells in `s` their arrivals. -/
def owe (s : Finset (Fin 9)) (c : Dev nD) : CellTallies nD τ sig Unit := ∑ k ∈ s, tallyAt (kcell (peer c, k)) () (amt k)

theorem owe_empty (c : Dev nD) : owe ∅ c = 0 := Finset.sum_empty
theorem owe_insert {s : Finset (Fin 9)} {k : Fin 9} (h : k ∉ s) (c : Dev nD) :
    owe (insert k s) c = owe s c + tallyAt (kcell (peer c, k)) () (amt k) := by
  unfold owe; rw [Finset.sum_insert h, add_comm]

theorem owe_apply (s : Finset (Fin 9)) (c : Dev nD) (g : GSem nD τ sig) (u : Unit) :
    owe s c g u = ∑ k ∈ s, if g = kcell (peer c, k) then amt k else 0 := by
  unfold owe
  rw [Finset.sum_apply, Finsupp.finset_sum_apply]
  refine Finset.sum_congr rfl fun k _ => ?_
  rw [tallyAt_apply]
  by_cases h : g = kcell (peer c, k)
  · rw [if_pos ⟨h, Subsingleton.elim _ _⟩, if_pos h]
  · rw [if_neg (fun h' => h h'.1), if_neg h]

theorem owe_pos {s : Finset (Fin 9)} {c : Dev nD} {g : GSem nD τ sig} {u : Unit} (h : 0 < owe s c g u) :
    ∃ k ∈ s, g = kcell (peer c, k) := by
  by_contra hn
  rw [owe_apply, Finset.sum_eq_zero fun k hk => if_neg fun h' => hn ⟨k, hk, h'⟩] at h
  exact Nat.lt_irrefl 0 h

theorem owe_at (s : Finset (Fin 9)) (d c : Dev nD) (k : Fin 9) :
    owe s d (kcell (c, k)) () = if d = peer c then (if k ∈ s then amt k else 0) else 0 := by
  rw [owe_apply]
  by_cases hd : d = peer c
  · subst hd
    rw [if_pos rfl, peer_peer]
    rw [Finset.sum_congr rfl (g := fun k' => if k = k' then amt k' else 0)
      (fun k' _ => by
        by_cases h : k = k'
        · subst h; rw [if_pos rfl, if_pos rfl]
        · rw [if_neg h, if_neg fun h' => h (congrArg Prod.snd (kcell_injective h'))])]
    rw [Finset.sum_ite_eq s k amt]
  · rw [if_neg hd]
    refine Finset.sum_eq_zero fun k' _ => if_neg fun h => hd ?_
    have h1 : c = peer d := congrArg Prod.fst (kcell_injective h)
    rw [h1, peer_peer]

/-- The cells a device arrives at by its own act at its partner. -/
abbrev owed4 : Finset (Fin 9) := insert 8 ∅
abbrev owed3 : Finset (Fin 9) := insert 7 owed4
abbrev owed2 : Finset (Fin 9) := insert 6 owed3
abbrev owed1 : Finset (Fin 9) := insert 5 owed2
abbrev owed0 : Finset (Fin 9) := insert 0 owed1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The rank of a cell in the order of waits: sends, then the barrier, then rows, then results. -/
def lev : Fin 9 → ℕ
  | 0 => 1 | 1 => 0 | 2 => 0 | 3 => 0 | 4 => 0 | 5 => 2 | 6 => 2 | 7 => 3 | 8 => 3
def lv (g : GSem nD τ sig) (_ : Unit) : ℕ := if g.2 = csem (kof g.2) then lev (kof g.2) else 0
theorem lv_k (c : Dev nD) (k : Fin 9) (u : Unit) : lv (kcell (c, k)) u = lev k := by
  unfold lv; rw [kof_csem, if_pos rfl]

/-- A device may wait on a cell of its own ranked below everything it still owes. -/
theorem mayWait_k (c : Dev nD) (sm : SemLoc sig) (n : ℕ) (s : Finset (Fin 9)) (hn : ∀ u, lv ((c : Thread nD τ), sm) u = n) (hs : ∀ k ∈ s, n < lev k) :
    (levAts L lv : sProp 𝕄) ⊢ MayWait (c : Thread nD τ) sm () (owe s c) :=
  MayOwe.of_cut (L := L) (lev := lv) n (fun p hp => by rw [Finset.mem_singleton.mp hp, L_tc]; exact Finset.mem_singleton_self _)
    (fun g u hg => by obtain ⟨k, -, rfl⟩ := owe_pos hg; exact Finset.mem_singleton_self _)
    (fun p hp => by rw [Finset.mem_singleton.mp hp, hn])
    (fun g u hg => by obtain ⟨k, hk, rfl⟩ := owe_pos hg; rw [lv_k]; exact hs k hk)

end Cert.Moe

end
-- ==== Proof.Steps.lean ====
/-
One rule per kind of step of the body: a load or store of half a buffer, the signal to the partner, a transfer to the
partner, and a wait that also closes its cell.
-/
module

public import proofs.«01_k».proof.Proof.Proto

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The invariants and marks of all cells -/

/-- Every cell's invariant, and that every cell has reached its one round. -/
def records (K : Dev nD × Fin 9 → ℕ) : sProp 𝕄 :=
  iprop((bigSep Finset.univ fun ck : Dev nD × Fin 9 => cellInv ER (rd m ρ) (K ck) (kcell ck))
    ∗ bigSep Finset.univ fun ck : Dev nD × Fin 9 => reached ER (kcell ck) 0)

instance records_persistent (K : Dev nD × Fin 9 → ℕ) : BI.Persistent (records m ρ K) := by unfold records; infer_instance

theorem inv_at (K : Dev nD × Fin 9 → ℕ) (ck : Dev nD × Fin 9) :
    records m ρ K ⊢ cellInv ER (rd m ρ) (K ck) (kcell ck) := by
  have h : (bigSep Finset.univ fun ck : Dev nD × Fin 9 => (cellInv ER (rd m ρ) (K ck) (kcell ck) : sProp 𝕄)) ⊢ cellInv ER (rd m ρ) (K ck) (kcell ck) :=
    bigSep_elim (Finset.mem_univ ck)
  unfold records
  iintro ⟨H, -⟩
  iapply h; iexact H
theorem reached_at (K : Dev nD × Fin 9 → ℕ) (ck : Dev nD × Fin 9) :
    records m ρ K ⊢ (reached ER (kcell ck) 0 : sProp 𝕄) := by
  have h : (bigSep Finset.univ fun ck : Dev nD × Fin 9 => (reached ER (kcell ck) 0 : sProp 𝕄)) ⊢ reached ER (kcell ck) 0 :=
    bigSep_elim (Finset.mem_univ ck)
  unfold records
  iintro ⟨-, H⟩
  iapply h; iexact H

/-! ## A buffer of 288 rows and its two halves -/

theorem halves_disjoint : Disjoint (r0).set (r1).set := by
  rw [Finset.disjoint_left]
  intro i h0 h1
  have a := ((Rect.mem_set_unit (s := S288x512)).mp h0 0).2
  have b := ((Rect.mem_set_unit (s := S288x512)).mp h1 0).1
  have a' : (i 0 : ℕ) < 0 + 144 := a
  have b' : 144 ≤ (i 0 : ℕ) := b
  omega

theorem halves_cover : (r0).set ∪ (r1).set = (Finset.univ : Finset S288x512.Idx) := by
  refine Finset.eq_univ_iff_forall.mpr fun i => ?_
  rw [Finset.mem_union]
  have h0 : (i 0 : ℕ) < 288 := (i 0).isLt
  have h1 : (i 1 : ℕ) < 512 := (i 1).isLt
  by_cases h : (i 0 : ℕ) < 144
  · refine Or.inl ((Rect.mem_set_unit (s := S288x512)).mpr fun a => ?_)
    fin_cases a
    · exact ⟨Nat.zero_le _, show (i 0 : ℕ) < 0 + 144 by omega⟩
    · exact ⟨Nat.zero_le _, show (i 1 : ℕ) < 0 + 512 by omega⟩
  · refine Or.inr ((Rect.mem_set_unit (s := S288x512)).mpr fun a => ?_)
    fin_cases a
    · exact ⟨show 144 ≤ (i 0 : ℕ) by omega, show (i 0 : ℕ) < 144 + 144 by omega⟩
    · exact ⟨Nat.zero_le _, show (i 1 : ℕ) < 0 + 512 by omega⟩

theorem set_halves (M : Memref sig .tc .vmem S288x512 .bf16) :
    M.view.set = (M.view.slice r0).set ∪ (M.view.slice r1).set := by
  rw [View.set_slice, View.set_slice, ← Finset.map_union, halves_cover]; rfl

theorem set_halves_disjoint (M : Memref sig .tc .vmem S288x512 .bf16) :
    Disjoint (M.view.slice r0).set (M.view.slice r1).set := by
  rw [View.set_slice, View.set_slice]; exact (Finset.disjoint_map _).mpr halves_disjoint

/-- A whole buffer at any contents is its two halves at some contents. -/
theorem split_halves (c : Dev nD) (M : Memref sig .tc .vmem S288x512 .bf16) (f : Buf (Elt F) (M.view.loc (c : Thread nD τ))) :
    (M.view.loc (c : Thread nD τ) ↦[M.view.set]{fullShare} f : sProp 𝕄) ⊢ iprop((∃ v, has c (lo M) v) ∗ (∃ v, has c (hi M) v)) := by
  rw [set_halves M]
  iintro H
  ihave H' := (pointsTo_union (set_halves_disjoint M)).1 $$ H
  icases H' with ⟨H0, H1⟩
  isplitl [H0]
  · iexists (lo M).view.read (Elt F) f; iapply (owns_intro (c : Thread nD τ) (lo M) fullShare f); iexact H0
  · iexists (hi M).view.read (Elt F) f; iapply (owns_intro (c : Thread nD τ) (hi M) fullShare f); iexact H1

/-- Two halves at any contents are the whole buffer at some contents. -/
theorem join_halves (c : Dev nD) (M : Memref sig .tc .vmem S288x512 .bf16) (v w : S144x512.Idx → Elt F .bf16) :
    iprop(has c (lo M) v ∗ has c (hi M) w) ⊢ (iprop(∃ f, M.view.loc (c : Thread nD τ) ↦[M.view.set]{fullShare} f) : sProp 𝕄) := by
  unfold has owns
  iintro ⟨⟨%f, -, H0⟩, ⟨%g, -, H1⟩⟩
  rw [set_halves M]
  iexists _
  iapply (pointsTo_join (set_halves_disjoint M))
  isplitl [H0]; · iexact H0
  iexact H1

/-! ## Loads and stores of a half -/

/-- A load of a rectangle of a memref owned there continues at the owned contents. -/
theorem wp_load_has {α : Type} {Q : α → sProp 𝕄} (c : Dev nD) {s : Shape} {e : EltTy} {M : Memref sig .tc .vmem s e} {r : Rect s} {hr : ∀ a, r.stride a = 1}
    {hl : M.view.LoadsAt r.toLoadRect} {k : (r.shape.Idx → Elt F e) → Prog (TpuEff nD τ sig (Elt F) Λ₀ .tc) α} (v : r.shape.Idx → Elt F e) :
    (owns (c : Thread nD τ) (M.slice r hr) fullShare v : sProp 𝕄)
      ⊢ iprop((owns (c : Thread nD τ) (M.slice r hr) fullShare v -∗ wp frame (wpE (defs₀ (F := F)) 𝒱₀ (c : Thread nD τ) none) Set.univ (k v) Q) -∗ wp frame (wpE (defs₀ (F := F)) 𝒱₀ (c : Thread nD τ) none) Set.univ (.op (.load M r.toLoadRect hl) k) Q) := by
  unfold owns
  iintro ⟨%f, %hf, H⟩ Hk
  iapply (wp_load_rect 𝒱₀ (c : Thread nD τ) none Set.univ (m := M) (r := r) (Finset.Subset.refl _)) $$ H
  iintro H
  rw [show (M.access r).read (Elt F) f = v from hf]
  iapply Hk
  iexists f
  isplitr; · ipureintro; exact hf
  iexact H

/-- A store to a rectangle of a memref owned there leaves it owned at the stored contents. -/
theorem wp_store_has {α : Type} {Q : α → sProp 𝕄} (c : Dev nD) {s : Shape} {e : EltTy} {M : Memref sig .tc .vmem s e} {r : Rect s} {hr : ∀ a, r.stride a = 1}
    {w : r.shape.Idx → Elt F e} {hx : (M.access r).Stores Finset.univ} {hm : Finset.univ = Finset.univ ∨ ∀ a, r.stride a = 1}
    {k : PUnit → Prog (TpuEff nD τ sig (Elt F) Λ₀ .tc) α} (v : r.shape.Idx → Elt F e) :
    (owns (c : Thread nD τ) (M.slice r hr) fullShare v : sProp 𝕄)
      ⊢ iprop((owns (c : Thread nD τ) (M.slice r hr) fullShare w -∗ wp frame (wpE (defs₀ (F := F)) 𝒱₀ (c : Thread nD τ) none) Set.univ (k ⟨⟩) Q) -∗ wp frame (wpE (defs₀ (F := F)) 𝒱₀ (c : Thread nD τ) none) Set.univ (.op (.store M r w Finset.univ hx hm) k) Q) := by
  unfold owns
  iintro ⟨%f, %hf, H⟩ Hk
  iapply (wp_store 𝒱₀ (c : Thread nD τ) none Set.univ (m := M) (r := r) (Mk := Finset.univ) (S := (M.slice r hr).view.set) (f := f) (hx := hx) (hm := hm) (w := w) (k := k) (Finset.Subset.refl _)) $$ H
  iintro H
  iapply Hk
  iexists ((M.access r).write (Elt F) f w Finset.univ)
  isplitr; · ipureintro; exact View.read_write_univ _ _
  iexact H

/-! ## Signal, transfer, wait -/

/-- What a device owes, at any record of its waits. -/
def owing (s : Finset (Fin 9)) (c : Dev nD) : sProp 𝕄 := iprop(∃ W, owes (c : Thread nD τ) (owe s c) W)

/-- The signal to the partner's barrier hands over the landing buffers. -/
theorem wp_signal_bar {α : Type} {Q : α → sProp 𝕄} (c n : Dev nD) (hn : n = peer c) (K : Dev nD × Fin 9 → ℕ) {s : Finset (Fin 9)} (hs : (0 : Fin 9) ∉ s)
    {k : PUnit → Prog (TpuEff nD τ sig (Elt F) Λ₀ .tc) α} {j : ℕ} (hj : j = 1) :
    iprop(records m ρ K ∗ owing (insert 0 s) c ∗ dutyTok ER (kcell (peer c, 0)) 0 () ∗ landing c)
      ⊢ iprop((owing s c -∗ wp frame (wpE (defs₀ (F := F)) 𝒱₀ (c : Thread nD τ) none) Set.univ (k ⟨⟩) Q) -∗ wp frame (wpE (defs₀ (F := F)) 𝒱₀ (c : Thread nD τ) none) Set.univ (.op (.semSignal (Dev.tc n : Thread nD τ) barS j) k) Q) := by
  subst hn hj
  unfold owing
  rw [owe_insert hs]
  iintro ⟨#HR, ⟨%W, HO⟩, Ht, Hl⟩ Hk
  iapply (Rounds.wp_signal 𝒱₀ ER (rd m ρ) (c : Thread nD τ) none (dst := (peer c : Thread nD τ)) (κ := K (peer c, 0))
      (d := ()) (by rw [show ((peer c : Thread nD τ), SemLoc.reg barS) = kcell (peer c, 0) from rfl, duties_k]; exact Finset.mem_singleton_self _)
      (amount_k m ρ (peer c) 0 ()) () (owe s c) rfl)
    $$ [HO Ht Hl]
  · isplitr; · iapply (inv_at m ρ K (peer c, 0)); iexact HR
    isplitl [HO]; · iexact HO
    isplitl [Ht]; · iexact Ht
    isplitl [Hl]
    · rw [show ((peer c : Thread nD τ), SemLoc.reg barS) = kcell (peer c, 0) from rfl, payload_k]; unfold pay; rw [peer_peer]; iexact Hl
    · iapply (reached_at m ρ K (peer c, 0)); iexact HR
  iintro HO
  iapply Hk
  iexists W; iexact HO

/-- A transfer of half a buffer to the partner: the source comes back through cell `k₁`, the partner gets its landing half through cell `k₂`. -/
theorem wp_send_peer {α : Type} {Q : α → sProp 𝕄} (c n : Dev nD) (hn : n = peer c) (K : Dev nD × Fin 9 → ℕ) {s : Finset (Fin 9)} (k₁ k₂ : Fin 9) (hk₁ : k₁ ≠ 0) (hk₂ : k₂ ≠ 0)
    (hs : k₂ ∉ s) {src dst : Memref sig .tc .vmem S144x512 .bf16} (hN : dst.view.dmaCredit = N)
    {qs qr : DmaSem sig} (hqs : SemLoc.dma qs = csem k₁) (hqr : SemLoc.dma qr = csem k₂) (v : S144x512.Idx → Elt F .bf16)
    (hp₁ : pay m ρ c k₁ = has c src v) (hp₂ : pay m ρ (peer c) k₂ = has (peer c) dst v)
    {hsc : (dst : Memref sig (Dev.tc n : Thread nD τ).2.kind .vmem S144x512 .bf16).view.ref.isScScratch = false}
    {hsrc : src.view.WordExact} {hdst : dst.view.WordExact}
    {hsem : DmaTarget.Typed .vmem (.dma qr) (.remote (Dev.tc n : Thread nD τ) dst (.dma qs) hsc)}
    {k : PUnit → Prog (TpuEff nD τ sig (Elt F) Λ₀ .tc) α} :
    iprop(records m ρ K ∗ has c src v ∗ (∃ w, has (peer c) dst w) ∗ owing (insert k₂ s) c
        ∗ dutyTok ER (kcell (c, k₁)) 0 () ∗ dutyTok ER (kcell (peer c, k₂)) 0 ())
      ⊢ iprop(((cred (tallyAt (kcell (c, k₁)) () (amt k₁)) ∗ owing s c) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma qs) hsc) (.dma qr) hsrc hdst hsem) k) Q) := by
  subst hn
  have e₁ : kcell (c, k₁) = ((c : Thread nD τ), SemLoc.dma qs) := by rw [hqs]
  have e₂ : kcell (peer c, k₂) = ((peer c : Thread nD τ), SemLoc.dma qr) := by rw [hqr]
  have a₁ : (rd (F := F) m ρ).amount (kcell (c, k₁)) 0 () = N := (amount_k m ρ c k₁ ()).trans (if_neg hk₁)
  have a₂ : (rd (F := F) m ρ).amount (kcell (peer c, k₂)) 0 () = N := (amount_k m ρ (peer c) k₂ ()).trans (if_neg hk₂)
  have d₁ : () ∈ (rd (F := F) m ρ).duties (kcell (c, k₁)) 0 := by rw [duties_k]; exact Finset.mem_singleton_self _
  have d₂ : () ∈ (rd (F := F) m ρ).duties (kcell (peer c, k₂)) 0 := by rw [duties_k]; exact Finset.mem_singleton_self _
  have p₁ : (rd (F := F) m ρ).payload (kcell (c, k₁)) 0 () = has c src v := (payload_k m ρ c k₁ ()).trans hp₁
  have p₂ : (rd (F := F) m ρ).payload (kcell (peer c, k₂)) 0 () = has (peer c) dst v := (payload_k m ρ (peer c) k₂ ()).trans hp₂
  have i₁ := inv_at m ρ K (c, k₁)
  have i₂ := inv_at m ρ K (peer c, k₂)
  have t₁ := reached_at m ρ K (c, k₁)
  have t₂ := reached_at m ρ K (peer c, k₂)
  have hO : owe (insert k₂ s) c = owe s c + tallyAt (kcell (peer c, k₂)) () N := by
    rw [owe_insert hs, show amt k₂ = N from if_neg hk₂]
  rw [show amt k₁ = N from if_neg hk₁]
  rw [e₁] at a₁ d₁ p₁ i₁ t₁ ⊢
  rw [e₂] at a₂ d₂ p₂ i₂ t₂ hO ⊢
  unfold owing has owns
  iintro ⟨#HR, ⟨%fs, %hfs, Hs⟩, ⟨%w, %fd, -, Hd⟩, ⟨%W, HO⟩, Ht₁, Ht₂⟩ Hk
  iapply (Rounds.wp_send_pointsTo 𝒱₀ ER (rd m ρ) (c : Thread nD τ) none (κ₁ := K (c, k₁)) (κ₂ := K (peer c, k₂)) (W := W)
    (r₁ := 0) (r₂ := 0) (d₁ := ()) (d₂ := ()) (fs := fs) (fd := fd) d₁ d₂ () () N hN a₁ a₂ (owe s c) hO
    (by rw [p₁, ← hfs]; exact owns_intro _ _ _ _)
    (by
      rw [p₂]
      refine (owns_intro (peer c : Thread nD τ) dst fullShare _).trans (Entails.of_eq ?_)
      rw [View.read_write_univ, hfs])) $$ [Hs Hd HO Ht₁ Ht₂]
  · isplitr; · iapply i₁; iexact HR
    isplitr; · iapply i₂; iexact HR
    isplitl [Hs]; · iexact Hs
    isplitl [Hd]; · iexact Hd
    isplitl [HO]; · iexact HO
    isplitl [Ht₁]; · iexact Ht₁
    isplitr; · iapply t₁; iexact HR
    isplitl [Ht₂]; · iexact Ht₂
    iapply t₂; iexact HR
  iintro ⟨Hc, HO⟩
  iapply Hk
  isplitl [Hc]; · iexact Hc
  iexists W; iexact HO

/-- A wait for the whole of a cell's one arrival: the cell closes, its counter at zero, and its payload is handed over. -/
theorem wp_wait_cell {α : Type} {Q : α → sProp 𝕄} (c : Dev nD) (K : Dev nD × Fin 9 → ℕ) (k : Fin 9) {s : Finset (Fin 9)} (hs : ∀ k' ∈ s, lev k < lev k')
    {w : TpuEff nD τ sig (Elt F) Λ₀ .tc PUnit} {sm : SemLoc sig} (hsm : sm = csem k) {j : ℕ} (hj : j = amt k)
    (hw : ∀ Kt : PUnit → sProp 𝕄, wpE (defs₀ (F := F)) 𝒱₀ (c : Thread nD τ) none Set.univ w Kt = waitSpec (c : Thread nD τ) Set.univ sm j Kt)
    {k' : PUnit → Prog (TpuEff nD τ sig (Elt F) Λ₀ .tc) α} :
    iprop(records m ρ K ∗ levAts L lv ∗ cred (tallyAt (kcell (c, k)) () (amt k)) ∗ owing s c ∗ atPos ER (kcell (c, k)) 0 ∅ 0)
      ⊢ iprop(((owing s c ∗ semVal (kcell (c, k)) 0 ∗ pay m ρ c k) -∗ wp frame (wpE (defs₀ (F := F)) 𝒱₀ (c : Thread nD τ) none) Set.univ (k' ⟨⟩) Q) -∗ wp frame (wpE (defs₀ (F := F)) 𝒱₀ (c : Thread nD τ) none) Set.univ (.op w k') Q) := by
  subst hsm hj
  unfold owing
  iintro ⟨#HR, #Hlev, Hc, ⟨%W, HO⟩, Hat⟩ Hk
  iapply (Rounds.wp_wait_rest_token 𝒱₀ ER (rd m ρ) (c : Thread nD τ) none (κ := K (c, k)) hw (Set.mem_univ _) () (O := owe s c) (W := W)
      (R := 0) (m := 0) (T := ∅) (by rw [Nat.zero_add, expect_k])) $$ [Hc HO Hat]
  · isplitr; · iapply (inv_at m ρ K (c, k)); iexact HR
    isplitl [Hc]; · iexact Hc
    isplitl [HO]; · iexact HO
    isplitr; · iapply (mayWait_k c (csem k) (lev k) s (fun u => lv_k c k u) hs); iexact Hlev
    iexact Hat
  iintro ⟨HO, Hat, -, Hpay⟩
  imod (Rounds.cell_close ER (rd m ρ) (Set.mem_univ (K (c, k))) (fun h => h) (R := 0 + 1) (duties_later m ρ (kcell (c, k)))) $$ [Hat] with Hz
  · isplitr; · iapply (inv_at m ρ K (c, k)); iexact HR
    iexact Hat
  iapply Hk
  isplitl [HO]; · iexists _; iexact HO
  isplitl [Hz]; · iexact Hz
  iapply (Entails.of_eq (rest_k m ρ c k)); iexact Hpay

/-- The wait of a transfer's cell, sending or receiving, of half a buffer. -/
theorem wp_wait_xfer {α : Type} {Q : α → sProp 𝕄} (c : Dev nD) (K : Dev nD × Fin 9 → ℕ) (k : Fin 9) (hk : k ≠ 0) {s : Finset (Fin 9)} (hs : ∀ k' ∈ s, lev k < lev k')
    {q : DmaSem sig} (hq : SemLoc.dma q = csem k) {src dst : Memref sig .tc .vmem S144x512 .bf16} (hN : dst.view.dmaCredit = N)
    {hsrc : src.view.WordExact} {hdst : dst.view.WordExact}
    {k' : PUnit → Prog (TpuEff nD τ sig (Elt F) Λ₀ .tc) α} :
    iprop(records m ρ K ∗ levAts L lv ∗ cred (tallyAt (kcell (c, k)) () (amt k)) ∗ owing s c ∗ atPos ER (kcell (c, k)) 0 ∅ 0)
      ⊢ iprop(((owing s c ∗ semVal (kcell (c, k)) 0 ∗ pay m ρ c k) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q src dst hsrc hdst) k') Q) :=
  wp_wait_cell m ρ c K k hs hq (hN.trans (amt_ne hk).symm) (wpE_waitDma2_eq 𝒱₀ (c : Thread nD τ) none Set.univ)

/-- The wait of the barrier's unit. -/
theorem wp_wait_bar {α : Type} {Q : α → sProp 𝕄} (c : Dev nD) (K : Dev nD × Fin 9 → ℕ) {s : Finset (Fin 9)} (hs : ∀ k' ∈ s, lev 0 < lev k')
    {j : ℕ} (hj : j = 1) {k' : PUnit → Prog (TpuEff nD τ sig (Elt F) Λ₀ .tc) α} :
    iprop(records m ρ K ∗ levAts L lv ∗ cred (tallyAt (kcell (c, 0)) () (amt 0)) ∗ owing s c ∗ atPos ER (kcell (c, 0)) 0 ∅ 0)
      ⊢ iprop(((owing s c ∗ semVal (kcell (c, 0)) 0 ∗ pay m ρ c 0) -∗ wp frame (wpE (defs₀ (F := F)) 𝒱₀ (c : Thread nD τ) none) Set.univ (k' ⟨⟩) Q)
          -∗ wp frame (wpE (defs₀ (F := F)) 𝒱₀ (c : Thread nD τ) none) Set.univ (.op (.semWait barS j) k') Q) :=
  wp_wait_cell m ρ c K 0 hs rfl (hj.trans amt_zero.symm) (wpE_semWait_eq 𝒱₀ (c : Thread nD τ) none Set.univ)

end Cert.Moe

end
-- ==== Proof.Body.lean ====
/-
The kernel's body on one device, run step by step in program order.
-/
module

public import proofs.«01_k».proof.Proof.Steps
public import proofs.«01_k».proof.Proof.Gen.KernelIdeal.Points

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and ends with -/

/-- The device whose cell `k` device `c` pays: its own for the send cells, its partner's for the others. -/
def tgt (k : Fin 9) (c : Dev nD) : Dev nD := if k ∈ ({1, 2, 3, 4} : Finset (Fin 9)) then c else peer c

def ats (c : Dev nD) : sProp 𝕄 := bigSep Finset.univ fun k : Fin 9 => atPos ER (kcell (c, k)) 0 ∅ 0
def payToks (c : Dev nD) : sProp 𝕄 := bigSep Finset.univ fun k : Fin 9 => dutyTok ER (kcell (tgt k c, k)) 0 ()
def creds (c : Dev nD) : sProp 𝕄 := bigSep owed0 fun k : Fin 9 => cred (tallyAt (kcell (c, k)) () (amt k))
def zeros (c : Dev nD) : sProp 𝕄 := bigSep Finset.univ fun k : Fin 9 => semVal (kcell (c, k)) 0

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_owed (Φ : Fin 9 → sProp 𝕄) : bigSep owed0 Φ = iprop(Φ 0 ∗ Φ 5 ∗ Φ 6 ∗ Φ 7 ∗ Φ 8) :=
  bigSep_eq_bigSepL_of_eq [0, 5, 6, 7, 8] (by decide) (by decide) Φ

/-- The five scratch buffers at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- What a device's body starts from: every cell's invariant, its places and tokens, its credit, the ranks. -/
def ghost (K : Dev nD × Fin 9 → ℕ) (c : Dev nD) : sProp 𝕄 := iprop(records m ρ K ∗ ats c ∗ payToks c)
def start (c : Dev nD) : sProp 𝕄 := iprop((∃ K, ghost m ρ K c) ∗ creds c ∗ levAts L lv)

def Φ₀ (c : Dev nD) : sProp 𝕄 := iprop(start m ρ c ∗ scratch c)
def Φ₁ (c : Dev nD) : sProp 𝕄 := iprop(scratch (F := F) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => av m ρ c
    | ⟨2, _⟩ => w1v m ρ c
    | ⟨3, _⟩ => w2v m ρ c
    | ⟨4, _⟩ => outAt m ρ c
  Φ t := match t with
    | ⟨0, _⟩ => Φ₀ m ρ c
    | ⟨_ + 1, _⟩ => Φ₁ c
  q _ := fullShare
  owed t := match t with
    | ⟨0, _⟩ => owe owed0 c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The buffers as the body meets them -/

theorem hz1 : (![0] : Fin 1 → Nat) = fun _ => 0 := funext fun a => by fin_cases a; rfl
theorem hz2 : (![0, 0] : Fin 2 → Nat) = fun _ => 0 := funext fun a => by fin_cases a <;> rfl

abbrev qx : Rect S512x512 := Rect.unit (s := S512x512) ![0, 0] S512x512.size inb_S512x512_S512x512_0_0
abbrev qa : Rect S512 := Rect.unit (s := S512) ![0] S512.size inb_S512_S512_0

theorem read_stg0 (f : (cc0_stg0_0 : Ref sig .tc).ty.Contents (Elt F)) : (Memref.whole cc0_stg0_0 : Memref sig .tc .vmem S512x512 .bf16).view.readAt (Elt F) qx.toLoadRect f = f :=
  Memref.readAt_unit_zero (Elt F) cc0_stg0_0 hz2 _ f
theorem read_stg1 (f : (cc0_stg1_0 : Ref sig .tc).ty.Contents (Elt F)) : (Memref.whole cc0_stg1_0 : Memref sig .tc .vmem S512 .i32).view.readAt (Elt F) qa.toLoadRect f = f :=
  Memref.readAt_unit_zero (Elt F) cc0_stg1_0 hz1 _ f
theorem read_stg4 (f : (cc0_stg4_0 : Ref sig .tc).ty.Contents (Elt F)) : (Memref.whole cc0_stg4_0 : Memref sig .tc .vmem S512x512 .f32).view.readAt (Elt F) qx.toLoadRect f = f :=
  Memref.readAt_unit_zero (Elt F) cc0_stg4_0 hz2 _ f
theorem read_scr0 (f : (cc0_scratch0 : Ref sig .tc).ty.Contents (Elt F)) : (Memref.whole cc0_scratch0 : Memref sig .tc .vmem S512x512 .bf16).view.readAt (Elt F) qx.toLoadRect f = f :=
  Memref.readAt_unit_zero (Elt F) cc0_scratch0 hz2 _ f
theorem write_stg4 (f w : (cc0_stg4_0 : Ref sig .tc).ty.Contents (Elt F)) :
    ((Memref.whole cc0_stg4_0 : Memref sig .tc .vmem S512x512 .f32).access qx : View sig .tc _ _ _).write (Elt F) f w Finset.univ = w :=
  Memref.write_access_unit_zero_univ (Elt F) cc0_stg4_0 hz2 _ f w
theorem write_scr0 (f w : (cc0_scratch0 : Ref sig .tc).ty.Contents (Elt F)) :
    ((Memref.whole cc0_scratch0 : Memref sig .tc .vmem S512x512 .bf16).access qx : View sig .tc _ _ _).write (Elt F) f w Finset.univ = w :=
  Memref.write_access_unit_zero_univ (Elt F) cc0_scratch0 hz2 _ f w

theorem read_w10 (c : Dev nD) : (Memref.whole cc0_stg2_0 : Memref sig .tc .vmem S2x512x1024 .bf16).view.readAt (Elt F) q10.toLoadRect (w1v m ρ c) = w10 m ρ c := rfl
theorem read_w11 (c : Dev nD) : (Memref.whole cc0_stg2_0 : Memref sig .tc .vmem S2x512x1024 .bf16).view.readAt (Elt F) q11.toLoadRect (w1v m ρ c) = w11 m ρ c := rfl
theorem read_w20 (c : Dev nD) : (Memref.whole cc0_stg3_0 : Memref sig .tc .vmem S2x1024x512 .bf16).view.readAt (Elt F) q20.toLoadRect (w2v m ρ c) = w20 m ρ c := rfl
theorem read_w21 (c : Dev nD) : (Memref.whole cc0_stg3_0 : Memref sig .tc .vmem S2x1024x512 .bf16).view.readAt (Elt F) q21.toLoadRect (w2v m ρ c) = w21 m ρ c := rfl

/-- The values as the body computes them. -/
theorem base_eq (c : Dev nD) : Scalar.muli (Scalar.remsi (Scalar.divsi (Dev.word c) 8#32) 2#32) 2#32 = base c := rfl
theorem P0_eq (c : Dev nD) : k0_pay6 io23 (k0_pay2 c (av m ρ c)) (k0_pay3 c (av m ρ c)) (k0_pay4 c (av m ρ c)) = P0 m ρ c := rfl
theorem P1_eq (c : Dev nD) : k0_pay7 io23 (k0_pay2 c (av m ρ c)) (k0_pay3 c (av m ρ c)) (k0_pay4 c (av m ρ c)) = P1 m ρ c := rfl
theorem L0_eq (c : Dev nD) : k0_pay9 (k0_pay1 (F := F)) io23 io24 (base c) (av m ρ c) = L0 m ρ c := rfl
theorem L1_eq (c : Dev nD) : k0_pay10 (k0_pay1 (F := F)) io23 io24 (base c) (av m ρ c) = L1 m ρ c := rfl
theorem xl_eq (c : Dev nD) : k0_pay12 (k0_pay11 (xv m ρ c)) = xl m ρ c := rfl
theorem xs0_eq (c : Dev nD) : k0_pay13 (P0 m ρ c) (xl m ρ c) = xs0 m ρ c := rfl
theorem xs1_eq (c : Dev nD) : k0_pay14 (P1 m ρ c) (xl m ρ c) = xs1 m ρ c := rfl
theorem cs0_eq (c : Dev nD) : k0_pay16 (k0_pay15 (xs0 m ρ (peer c)) (w10 m ρ c) (w20 m ρ c)) = cs0 m ρ c := rfl
theorem cs1_eq (c : Dev nD) : k0_pay18 (xs1 m ρ (peer c)) (k0_pay17 (w11 m ρ c)) (constant S144x1024 .f32 0x00000000#32) (w21 m ρ c) = cs1 m ρ c := rfl
theorem o1_eq (c : Dev nD) : k0_pay21 (L0 m ρ c) (L1 m ρ c) (k0_pay19 (F := F)) (k0_pay20 (L0 m ρ c) (xl m ρ c) (w10 m ρ c)) (w20 m ρ c) (xl m ρ c) (w11 m ρ c) (w21 m ρ c) = o1 m ρ c := rfl
theorem o2_eq (c : Dev nD) : k0_pay22 (P0 m ρ c) (o1 m ρ c) (cs0 m ρ (peer c)) = o2 m ρ c := rfl
theorem outAt_eq (c : Dev nD) : k0_pay23 (P1 m ρ c) (o2 m ρ c) (cs1 m ρ (peer c)) = outAt m ρ c := rfl

/-- A scratch buffer of 288 rows and its halves. -/
theorem split_s (c : Dev nD) (f) : (((c : Thread nD τ).loc cc0_scratch1) ↦{fullShare} f : sProp 𝕄) ⊢ iprop((∃ v, has c (lo sM) v) ∗ (∃ v, has c (hi sM) v)) := by
  have h := split_halves c sM f; rw [View.set_whole] at h; exact h
theorem split_r (c : Dev nD) (f) : (((c : Thread nD τ).loc cc0_scratch2) ↦{fullShare} f : sProp 𝕄) ⊢ iprop((∃ v, has c (lo rM) v) ∗ (∃ v, has c (hi rM) v)) := by
  have h := split_halves c rM f; rw [View.set_whole] at h; exact h
theorem split_c (c : Dev nD) (f) : (((c : Thread nD τ).loc cc0_scratch3) ↦{fullShare} f : sProp 𝕄) ⊢ iprop((∃ v, has c (lo cM) v) ∗ (∃ v, has c (hi cM) v)) := by
  have h := split_halves c cM f; rw [View.set_whole] at h; exact h
theorem split_v (c : Dev nD) (f) : (((c : Thread nD τ).loc cc0_scratch4) ↦{fullShare} f : sProp 𝕄) ⊢ iprop((∃ v, has c (lo vM) v) ∗ (∃ v, has c (hi vM) v)) := by
  have h := split_halves c vM f; rw [View.set_whole] at h; exact h
theorem join_s (c : Dev nD) (v w) : iprop(has c (lo sM) v ∗ has c (hi sM) w) ⊢ (iprop(∃ f : Buf (Elt F) ((c : Thread nD τ).loc cc0_scratch1), ((c : Thread nD τ).loc cc0_scratch1) ↦{fullShare} f) : sProp 𝕄) := by
  have h := join_halves (F := F) c sM v w; rw [View.set_whole] at h; exact h
theorem join_r (c : Dev nD) (v w) : iprop(has c (lo rM) v ∗ has c (hi rM) w) ⊢ (iprop(∃ f : Buf (Elt F) ((c : Thread nD τ).loc cc0_scratch2), ((c : Thread nD τ).loc cc0_scratch2) ↦{fullShare} f) : sProp 𝕄) := by
  have h := join_halves (F := F) c rM v w; rw [View.set_whole] at h; exact h
theorem join_c (c : Dev nD) (v w) : iprop(has c (lo cM) v ∗ has c (hi cM) w) ⊢ (iprop(∃ f : Buf (Elt F) ((c : Thread nD τ).loc cc0_scratch3), ((c : Thread nD τ).loc cc0_scratch3) ↦{fullShare} f) : sProp 𝕄) := by
  have h := join_halves (F := F) c cM v w; rw [View.set_whole] at h; exact h
theorem join_v (c : Dev nD) (v w) : iprop(has c (lo vM) v ∗ has c (hi vM) w) ⊢ (iprop(∃ f : Buf (Elt F) ((c : Thread nD τ).loc cc0_scratch4), ((c : Thread nD τ).loc cc0_scratch4) ↦{fullShare} f) : sProp 𝕄) := by
  have h := join_halves (F := F) c vM v w; rw [View.set_whole] at h; exact h

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ c ∗ (dats m ρ 0 c).owesAt () t₀.succ ∗ stg c cc0_stg0_0 (xv m ρ c) ∗ stg c cc0_stg1_0 (av m ρ c)
    ∗ stg c cc0_stg2_0 (w1v m ρ c) ∗ stg c cc0_stg3_0 (w2v m ρ c) ∗ stg c cc0_stg4_0 (outAt m ρ c))

set_option maxHeartbeats 4000000 in
/-- The body, one rule per step in program order. -/
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, Prog.bind_assoc, wp_deviceId]
  unfold bodyPre Φ₀ start ghost scratch ats payToks creds
  rw [bigSep_owed]
  simp only [bigSep_fin9]
  simp only [show tgt 0 c = peer c from rfl, show tgt 1 c = c from rfl, show tgt 2 c = c from rfl, show tgt 3 c = c from rfl, show tgt 4 c = c from rfl,
    show tgt 5 c = peer c from rfl, show tgt 6 c = peer c from rfl, show tgt 7 c = peer c from rfl, show tgt 8 c = peer c from rfl]
  iintro ⟨⟨⟨⟨⟨%K, #HR, Hat, Htok⟩, Hcr, #Hlev⟩, ⟨%f5, H5⟩, ⟨%f6, H6⟩, ⟨%f7, H7⟩, ⟨%f8, H8⟩, ⟨%f9, H9⟩⟩, Ho,
    ⟨%d0, %g0, %hg0, Hx⟩, ⟨%d1, %g1, %hg1, Ha⟩, ⟨%d2, %g2, %hg2, Hw1⟩, ⟨%d3, %g3, %hg3, Hw2⟩, ⟨%d4, %g4, %hg4, Hout⟩⟩, Hk⟩
  have hx : g0 = xv m ρ c := by rw [hg0]; unfold Dat.before; rw [if_pos (fetch0_0 t₀)]; rfl
  have ha : g1 = av m ρ c := by rw [hg1]; unfold Dat.before; rw [if_pos (fetch0_1 t₀)]; rfl
  have hw1 : g2 = w1v m ρ c := by rw [hg2]; unfold Dat.before; rw [if_pos (fetch0_2 t₀)]; rfl
  have hw2 : g3 = w2v m ρ c := by rw [hg3]; unfold Dat.before; rw [if_pos (fetch0_3 t₀)]; rfl
  subst hx ha hw1 hw2
  clear hg0 hg1 hg2 hg3 hg4
  unfold Dat.owesAt Pipeline.owesWithin
  icases Ho with ⟨%W, %hW, HO⟩
  rw [show (dats m ρ 0 c).owed t₀.castSucc = owe owed0 c from rfl]
  ihave HO := (show (owes (c : Thread nD τ) (owe owed0 c) W : sProp 𝕄) ⊢ owing owed0 c from by unfold owing; iintro H; iexists W; iexact H) $$ HO
  icases Hat with ⟨A0, A1, A2, A3, A4, A5, A6, A7, A8⟩
  icases Htok with ⟨T0, T1, T2, T3, T4, T5, T6, T7, T8⟩
  icases Hcr with ⟨C0, C5, C6, C7, C8⟩
  -- the scratch buffers by halves
  ihave H6 := (split_s c f6) $$ H6
  icases H6 with ⟨⟨%u0, S0⟩, ⟨%u1, S1⟩⟩
  ihave H7 := (split_r c f7) $$ H7
  icases H7 with ⟨R0, R1⟩
  ihave H8 := (split_c c f8) $$ H8
  icases H8 with ⟨⟨%u2, G0⟩, ⟨%u3, G1⟩⟩
  ihave H9 := (split_v c f9) $$ H9
  icases H9 with ⟨V0, V1⟩
  -- the signal to the partner
  iapply (wp_signal_bar m ρ c _ (dev1_eq c) K (s := owed1) (by decide) rfl) $$ [HO T0 R0 R1 V0 V1]
  · isplitr; · iexact HR
    isplitl [HO]; · iexact HO
    isplitl [T0]; · iexact T0
    unfold landing
    isplitl [R0]; · iexact R0
    isplitl [R1]; · iexact R1
    isplitl [V0]; · iexact V0
    iexact V1
  iintro HO
  -- the routing words, the rows
  iapply (wp_load 𝒱₀ (c : Thread nD τ) none Set.univ (m := Memref.whole cc0_stg1_0) (Finset.subset_univ _)) $$ Ha; iintro Ha
  rw [read_stg1]
  iapply (wp_load 𝒱₀ (c : Thread nD τ) none Set.univ (m := Memref.whole cc0_stg1_0) (Finset.subset_univ _)) $$ Ha; iintro Ha
  rw [read_stg1]
  iapply (wp_load 𝒱₀ (c : Thread nD τ) none Set.univ (m := Memref.whole cc0_stg0_0) (Finset.subset_univ _)) $$ Hx; iintro Hx
  rw [read_stg0]
  rw [P0_eq, P1_eq, base_eq, L0_eq, L1_eq]
  iapply (wp_load 𝒱₀ (c : Thread nD τ) none Set.univ (m := Memref.whole cc0_scratch0) (Finset.subset_univ _)) $$ H5; iintro H5
  iapply (wp_store 𝒱₀ (c : Thread nD τ) none Set.univ (m := Memref.whole cc0_scratch0) (r := qx) (Mk := Finset.univ) (Finset.subset_univ _)) $$ H5; iintro H5
  rw [write_scr0, xl_eq]
  iapply (wp_load 𝒱₀ (c : Thread nD τ) none Set.univ (m := Memref.whole cc0_scratch0) (Finset.subset_univ _)) $$ H5; iintro H5
  rw [read_scr0]
  -- the two blocks for the partner
  iapply (wp_load_has c u0) $$ S0; iintro S0
  iapply (wp_store_has c u0) $$ S0; iintro S0
  rw [xs0_eq]
  iapply (wp_load 𝒱₀ (c : Thread nD τ) none Set.univ (m := Memref.whole cc0_scratch0) (Finset.subset_univ _)) $$ H5; iintro H5
  rw [read_scr0]
  iapply (wp_load_has c u1) $$ S1; iintro S1
  iapply (wp_store_has c u1) $$ S1; iintro S1
  rw [xs1_eq]
  -- the partner is ready: its landing buffers
  iapply (wp_wait_bar m ρ c K (s := owed1) (by decide) rfl) $$ [C0 HO A0]
  · isplitr; · iexact HR
    isplitr; · iexact Hlev
    isplitl [C0]; · iexact C0
    isplitl [HO]; · iexact HO
    iexact A0
  iintro ⟨HO, Z0, P0⟩
  ihave P0 := (show pay (F := F) m ρ c 0 ⊢ landing (peer c) from Entails.of_eq rfl) $$ P0
  unfold landing
  icases P0 with ⟨D0, D1, D2, D3⟩
  iapply (wp_send_peer m ρ c _ (dev2_eq c) K (s := owed2) (src := lo sM) (dst := lo rM) 1 5 (by decide) (by decide) (by decide) rfl rfl rfl (xs0 m ρ c) rfl
    (by show has (peer c) _ (xs0 m ρ (peer (peer c))) = _; rw [peer_peer])) $$ [S0 D0 HO T1 T5]
  · isplitr; · iexact HR
    isplitl [S0]; · iexact S0
    isplitl [D0]; · iexact D0
    isplitl [HO]; · iexact HO
    isplitl [T1]; · iexact T1
    iexact T5
  iintro ⟨C1, HO⟩
  iapply (wp_send_peer m ρ c _ (dev3_eq c) K (s := owed3) (src := hi sM) (dst := hi rM) 2 6 (by decide) (by decide) (by decide) rfl rfl rfl (xs1 m ρ c) rfl
    (by show has (peer c) _ (xs1 m ρ (peer (peer c))) = _; rw [peer_peer])) $$ [S1 D1 HO T2 T6]
  · isplitr; · iexact HR
    isplitl [S1]; · iexact S1
    isplitl [D1]; · iexact D1
    isplitl [HO]; · iexact HO
    isplitl [T2]; · iexact T2
    iexact T6
  iintro ⟨C2, HO⟩
  -- the partner's first block, through the first expert, back
  iapply (wp_wait_xfer m ρ c K 5 (by decide) (s := owed3) (by decide) (src := lo sM) (dst := lo rM) rfl rfl) $$ [C5 HO A5]
  · isplitr; · iexact HR
    isplitr; · iexact Hlev
    isplitl [C5]; · iexact C5
    isplitl [HO]; · iexact HO
    iexact A5
  iintro ⟨HO, Z5, P5⟩
  ihave P5 := (show pay (F := F) m ρ c 5 ⊢ has c (lo rM) (xs0 m ρ (peer c)) from Entails.of_eq rfl) $$ P5
  iapply (wp_load_has c (xs0 m ρ (peer c))) $$ P5; iintro P5
  iapply (wp_load 𝒱₀ (c : Thread nD τ) none Set.univ (m := Memref.whole cc0_stg2_0) (Finset.subset_univ _)) $$ Hw1; iintro Hw1
  rw [read_w10]
  iapply (wp_load 𝒱₀ (c : Thread nD τ) none Set.univ (m := Memref.whole cc0_stg3_0) (Finset.subset_univ _)) $$ Hw2; iintro Hw2
  rw [read_w20]
  iapply (wp_load_has c u2) $$ G0; iintro G0
  iapply (wp_store_has c u2) $$ G0; iintro G0
  rw [cs0_eq]
  iapply (wp_send_peer m ρ c _ (dev4_eq c) K (s := owed4) (src := lo cM) (dst := lo vM) 3 7 (by decide) (by decide) (by decide) rfl rfl rfl (cs0 m ρ c) rfl
    (by show has (peer c) _ (cs0 m ρ (peer (peer c))) = _; rw [peer_peer])) $$ [G0 D2 HO T3 T7]
  · isplitr; · iexact HR
    isplitl [G0]; · iexact G0
    isplitl [D2]; · iexact D2
    isplitl [HO]; · iexact HO
    isplitl [T3]; · iexact T3
    iexact T7
  iintro ⟨C3, HO⟩
  -- the second block likewise
  iapply (wp_wait_xfer m ρ c K 6 (by decide) (s := owed4) (by decide) (src := hi sM) (dst := hi rM) rfl rfl) $$ [C6 HO A6]
  · isplitr; · iexact HR
    isplitr; · iexact Hlev
    isplitl [C6]; · iexact C6
    isplitl [HO]; · iexact HO
    iexact A6
  iintro ⟨HO, Z6, P6⟩
  ihave P6 := (show pay (F := F) m ρ c 6 ⊢ has c (hi rM) (xs1 m ρ (peer c)) from Entails.of_eq rfl) $$ P6
  iapply (wp_load_has c (xs1 m ρ (peer c))) $$ P6; iintro P6
  iapply (wp_load 𝒱₀ (c : Thread nD τ) none Set.univ (m := Memref.whole cc0_stg2_0) (Finset.subset_univ _)) $$ Hw1; iintro Hw1
  rw [read_w11]
  iapply (wp_load 𝒱₀ (c : Thread nD τ) none Set.univ (m := Memref.whole cc0_stg3_0) (Finset.subset_univ _)) $$ Hw2; iintro Hw2
  rw [read_w21]
  iapply (wp_load_has c u3) $$ G1; iintro G1
  iapply (wp_store_has c u3) $$ G1; iintro G1
  rw [cs1_eq]
  iapply (wp_send_peer m ρ c _ (dev5_eq c) K (s := ∅) (src := hi cM) (dst := hi vM) 4 8 (by decide) (by decide) (by decide) rfl rfl rfl (cs1 m ρ c) rfl
    (by show has (peer c) _ (cs1 m ρ (peer (peer c))) = _; rw [peer_peer])) $$ [G1 D3 HO T4 T8]
  · isplitr; · iexact HR
    isplitl [G1]; · iexact G1
    isplitl [D3]; · iexact D3
    isplitl [HO]; · iexact HO
    isplitl [T4]; · iexact T4
    iexact T8
  iintro ⟨C4, HO⟩
  -- the device's own experts
  iapply (wp_load 𝒱₀ (c : Thread nD τ) none Set.univ (m := Memref.whole cc0_scratch0) (Finset.subset_univ _)) $$ H5; iintro H5
  rw [read_scr0]
  iapply (wp_load 𝒱₀ (c : Thread nD τ) none Set.univ (m := Memref.whole cc0_stg2_0) (Finset.subset_univ _)) $$ Hw1; iintro Hw1
  rw [read_w10]
  iapply (wp_load 𝒱₀ (c : Thread nD τ) none Set.univ (m := Memref.whole cc0_stg3_0) (Finset.subset_univ _)) $$ Hw2; iintro Hw2
  rw [read_w20]
  iapply (wp_load 𝒱₀ (c : Thread nD τ) none Set.univ (m := Memref.whole cc0_scratch0) (Finset.subset_univ _)) $$ H5; iintro H5
  rw [read_scr0]
  iapply (wp_load 𝒱₀ (c : Thread nD τ) none Set.univ (m := Memref.whole cc0_stg2_0) (Finset.subset_univ _)) $$ Hw1; iintro Hw1
  rw [read_w11]
  iapply (wp_load 𝒱₀ (c : Thread nD τ) none Set.univ (m := Memref.whole cc0_stg3_0) (Finset.subset_univ _)) $$ Hw2; iintro Hw2
  rw [read_w21]
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := qx) (Mk := Finset.univ) (Finset.subset_univ _)) $$ Hout; iintro Hout
  rw [write_stg4, o1_eq]
  -- the partner's results
  iapply (wp_wait_xfer m ρ c K 7 (by decide) (s := ∅) (by decide) (src := lo cM) (dst := lo vM) rfl rfl) $$ [C7 HO A7]
  · isplitr; · iexact HR
    isplitr; · iexact Hlev
    isplitl [C7]; · iexact C7
    isplitl [HO]; · iexact HO
    iexact A7
  iintro ⟨HO, Z7, P7⟩
  ihave P7 := (show pay (F := F) m ρ c 7 ⊢ has c (lo vM) (cs0 m ρ (peer c)) from Entails.of_eq rfl) $$ P7
  iapply (wp_load 𝒱₀ (c : Thread nD τ) none Set.univ (m := Memref.whole cc0_stg4_0) (Finset.subset_univ _)) $$ Hout; iintro Hout
  rw [read_stg4]
  iapply (wp_load_has c (cs0 m ρ (peer c))) $$ P7; iintro P7
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := qx) (Mk := Finset.univ) (Finset.subset_univ _)) $$ Hout; iintro Hout
  rw [write_stg4, o2_eq]
  iapply (wp_wait_xfer m ρ c K 8 (by decide) (s := ∅) (by decide) (src := hi cM) (dst := hi vM) rfl rfl) $$ [C8 HO A8]
  · isplitr; · iexact HR
    isplitr; · iexact Hlev
    isplitl [C8]; · iexact C8
    isplitl [HO]; · iexact HO
    iexact A8
  iintro ⟨HO, Z8, P8⟩
  ihave P8 := (show pay (F := F) m ρ c 8 ⊢ has c (hi vM) (cs1 m ρ (peer c)) from Entails.of_eq rfl) $$ P8
  iapply (wp_load 𝒱₀ (c : Thread nD τ) none Set.univ (m := Memref.whole cc0_stg4_0) (Finset.subset_univ _)) $$ Hout; iintro Hout
  rw [read_stg4]
  iapply (wp_load_has c (cs1 m ρ (peer c))) $$ P8; iintro P8
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := qx) (Mk := Finset.univ) (Finset.subset_univ _)) $$ Hout; iintro Hout
  rw [write_stg4, outAt_eq]
  -- the sent halves back
  iapply (wp_wait_xfer m ρ c K 1 (by decide) (s := ∅) (by decide) (src := lo rM) (dst := lo sM) rfl rfl) $$ [C1 HO A1]
  · isplitr; · iexact HR
    isplitr; · iexact Hlev
    isplitl [C1]; · iexact C1
    isplitl [HO]; · iexact HO
    iexact A1
  iintro ⟨HO, Z1, P1⟩
  iapply (wp_wait_xfer m ρ c K 3 (by decide) (s := ∅) (by decide) (src := lo vM) (dst := lo cM) rfl rfl) $$ [C3 HO A3]
  · isplitr; · iexact HR
    isplitr; · iexact Hlev
    isplitl [C3]; · iexact C3
    isplitl [HO]; · iexact HO
    iexact A3
  iintro ⟨HO, Z3, P3⟩
  iapply (wp_wait_xfer m ρ c K 2 (by decide) (s := ∅) (by decide) (src := hi rM) (dst := hi sM) rfl rfl) $$ [C2 HO A2]
  · isplitr; · iexact HR
    isplitr; · iexact Hlev
    isplitl [C2]; · iexact C2
    isplitl [HO]; · iexact HO
    iexact A2
  iintro ⟨HO, Z2, P2⟩
  iapply (wp_wait_xfer m ρ c K 4 (by decide) (s := ∅) (by decide) (src := hi vM) (dst := hi cM) rfl rfl) $$ [C4 HO A4]
  · isplitr; · iexact HR
    isplitr; · iexact Hlev
    isplitl [C4]; · iexact C4
    isplitl [HO]; · iexact HO
    iexact A4
  iintro ⟨HO, Z4, P4⟩
  ihave P1 := (show pay (F := F) m ρ c 1 ⊢ has c (lo sM) (xs0 m ρ c) from Entails.of_eq rfl) $$ P1
  ihave P2 := (show pay (F := F) m ρ c 2 ⊢ has c (hi sM) (xs1 m ρ c) from Entails.of_eq rfl) $$ P2
  ihave P3 := (show pay (F := F) m ρ c 3 ⊢ has c (lo cM) (cs0 m ρ c) from Entails.of_eq rfl) $$ P3
  ihave P4 := (show pay (F := F) m ρ c 4 ⊢ has c (hi cM) (cs1 m ρ c) from Entails.of_eq rfl) $$ P4
  rw [wp_ret]; imodintro
  iapply Hk
  unfold bodyPost Φ₁ Dat.owesAt Pipeline.owesWithin zeros scratch
  rw [show (dats m ρ 0 c).owed t₀.succ = 0 from rfl, bigSep_fin9]
  isplitl [H5 P1 P2 P3 P4 P5 P6 P7 P8 Z0 Z1 Z2 Z3 Z4 Z5 Z6 Z7 Z8]
  · isplitl [H5 P1 P2 P3 P4 P5 P6 P7 P8]
    · isplitl [H5]; · iexists _; iexact H5
      isplitl [P1 P2]
      · iapply (join_s c _ _); isplitl [P1]; · iexact P1
        iexact P2
      isplitl [P5 P6]
      · iapply (join_r c _ _); isplitl [P5]; · iexact P5
        iexact P6
      isplitl [P3 P4]
      · iapply (join_c c _ _); isplitl [P3]; · iexact P3
        iexact P4
      iapply (join_v c _ _); isplitl [P7]; · iexact P7
      iexact P8
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    iexact Z8
  isplitl [HO]
  · unfold owing
    rw [owe_empty]
    icases HO with ⟨%W', HO⟩
    iexists W'
    isplitr; · ipureintro; exact fun _ _ => Or.inl trivial
    iexact HO
  isplitl [Hx]
  · iexists _; isplitr; · (ipureintro; rfl)
    iexact Hx
  isplitl [Ha]
  · iexists _; isplitr; · (ipureintro; rfl)
    iexact Ha
  isplitl [Hw1]
  · iexists _; isplitr; · (ipureintro; rfl)
    iexact Hw1
  isplitl [Hw2]
  · iexists _; isplitr; · (ipureintro; rfl)
    iexact Hw2
  iexists _; isplitr; · (ipureintro; rfl)
  iexact Hout

end Cert.Moe

end
-- ==== Proof.Start.lean ====
/-
The launch: the cells' invariants for all devices at once, the credit each device starts with, and the run of the whole
program from any memory.
-/
module

public import proofs.«01_k».proof.Proof.Body
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

set_option maxRecDepth 4000 in
/-- The pipeline's obligation for its body on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6) (fun _ => bodyPost m ρ c)
  iintro H
  iapply (sound_body m ρ c fun _ => bodyPost m ρ c)
  isplitl [H]; · iexact H
  iintro H; iexact H

/-! ## The launch element -/

/-- The kernel's own semaphores: the eight of its transfers. -/
abbrev osem : Fin 8 → SemLoc sig := fun k => csem k.succ

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

abbrev tokOf (ck : Dev nD × Fin 9) : GSem nD τ sig × ℕ × Unit := (kcell ck, 0, ())
theorem tokOf_injective : Function.Injective (tokOf : Dev nD × Fin 9 → GSem nD τ sig × ℕ × Unit) :=
  fun _ _ h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- The duty tokens of a device's own cells. -/
def toks (c : Dev nD) : sProp 𝕄 := bigSep Finset.univ fun k : Fin 9 => dutyTok ER (kcell (c, k)) 0 ()

def G (c : Dev nD) : sProp 𝕄 :=
  iprop((bigSep Finset.univ fun k : Fin 9 => roundState ER (rd m ρ) (kcell (c, k)) 0)
    ∗ (bigSep Finset.univ fun k : Fin 9 => iprop(atPos ER (kcell (c, k)) 0 ∅ 0 ∗ reached ER (kcell (c, k)) 0)) ∗ toks c)

def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
        ∗ semVal (kcell (c, 5)) 0 ∗ semVal (kcell (c, 6)) 0 ∗ semVal (kcell (c, 7)) 0 ∗ semVal (kcell (c, 8)) 0) := by
  rw [Pipeline.ownSems0_eq_of_list c osem [0, 1, 2, 3, 4, 5, 6, 7] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  unfold zeros
  rw [ownSems0_eq, unscopedSems0_eq, bigSep_fin9]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (zeros_eq (F := F) c).symm) $$ [Hos Hus]
  · isplitl [Hus] <;> iassumption
  imod (show iprop(zeros c ∗ bigSep Finset.univ fun k : Fin 9 => roundState ER (rd m ρ) (kcell (c, k)) 0)
      ⊢ (|={Set.univ}=> bigSep Finset.univ fun k => iprop(∃ κ : ℕ, cellInv ER (rd m ρ) κ (kcell (c, k))) : sProp 𝕄) from by
        unfold zeros
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Every device's part, from all of them together -/

theorem tgt_tgt (k : Fin 9) (c : Dev nD) : tgt k (tgt k c) = c := by
  unfold tgt; split; exacts [rfl, peer_peer c]

/-- Who pays which cell, as a rearrangement of all cells. -/
def around : Dev nD × Fin 9 ≃ Dev nD × Fin 9 where
  toFun ck := (tgt ck.2 ck.1, ck.2)
  invFun ck := (tgt ck.2 ck.1, ck.2)
  left_inv ck := by simp only [tgt_tgt]
  right_inv ck := by simp only [tgt_tgt]

theorem toks_around : (bigSep Finset.univ fun c : Dev nD => (toks c : sProp 𝕄)) = bigSep Finset.univ fun c : Dev nD => payToks c := by
  unfold toks payToks
  rw [← bigSep_univ_prod (fun ck : Dev nD × Fin 9 => (dutyTok ER (kcell ck) 0 () : sProp 𝕄)),
    ← bigSep_univ_prod (fun ck : Dev nD × Fin 9 => (dutyTok ER (kcell (tgt ck.2 ck.1, ck.2)) 0 () : sProp 𝕄))]
  exact bigSep_univ_equiv around (fun ck : Dev nD × Fin 9 => (dutyTok ER (kcell ck) 0 () : sProp 𝕄))

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 9 → ℕ) (c : Dev nD) : iprop(records m ρ K ∗ (ats c ∗ payToks c)) ⊢ G' m ρ c := by
  unfold G' ghost
  iintro ⟨HR, Ha, Ht⟩
  iexists K
  isplitl [HR]; · iexact HR
  isplitl [Ha] <;> iassumption

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 9 => iprop(∃ κ : ℕ, cellInv ER (rd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (rd m ρ) κ (kcell ck) : sProp 𝕄))) $$ HI
  icases HK with ⟨%K, #HI⟩
  ihave Htk := (Entails.of_eq (toks_around (F := F))) $$ Htok
  iapply (with_persistent (R := records m ρ K) fun c _ => ghost_intro m ρ K c)
  isplitr
  · unfold records; isplitl; · iexact HI
    iexact HR
  · iapply (Entails.of_eq (bigSep_sep' Finset.univ (fun c : Dev nD => (ats c : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem launch_k (c : Dev nD) (k : Fin 9) (hk : k ∈ owed0) :
    tallyOn (kcell (c, k)) (launchCredit (Pipeline.owing (owe owed0)) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owe_at owed0 d c k,
    Finset.sum_ite_eq' Finset.univ (peer c) fun _ => _, if_pos (Finset.mem_univ _), if_pos hk]

theorem creds_intro (c : Dev nD) : (Pipeline.launchCred (owe owed0) c : sProp 𝕄) ⊢ creds c := by
  unfold Pipeline.launchCred creds
  have h : (bigSep owed0 fun k : Fin 9 => (cred (tallyAt (kcell (c, k)) () (amt k)) : sProp 𝕄))
      = bigSep (owed0.map ⟨csem, fun _ _ h => csem_inj h⟩) fun sm : SemLoc sig =>
          cred (tallyOn ((c : Thread nD τ), sm) (launchCredit (Pipeline.owing (owe owed0)) 0 ((c : Thread nD τ), sm))) := by
    rw [bigSep_map]
    exact bigSep_congr fun k hk => by rw [← launch_k c k hk]; rfl
  rw [h]
  exact bigSep_subset (Finset.subset_univ _)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (owe owed0) c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [zeros_eq]
  iintro ⟨Hr, Hu, Ho⟩
  isplitl [Hu]; · iexact Hu
  isplitl [Ho]; · iexact Ho
  iexact Hr

theorem lv_stage (c : Dev nD) (w : Fin cfg0.W) (s : Fin (cfg0.win w).nbuf) (u : Unit) :
    lv ((c : Thread nD τ), .dma ((cfg0.win w).sem s)) u = 0 := by
  fin_cases w <;> fin_cases s <;> rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_k c _ 0 owed0 (lv_stage c w s) (by decide)
    · show (levAts L lv : sProp 𝕄) ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, on any float values: every fair execution of the program ends, with every
    device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe owed0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays after the run hold what they held. -/
theorem finalA_0 (c : Dev nD) : finalA m ρ c (0 : Fin 5) = m ((c : Thread nD τ).loc main_arg0) := (dats (F := F) m ρ 0 c).arrAt_in (0 : Fin 5) rfl _
theorem finalA_1 (c : Dev nD) : finalA m ρ c (1 : Fin 5) = m ((c : Thread nD τ).loc main_arg1) := (dats (F := F) m ρ 0 c).arrAt_in (1 : Fin 5) rfl _
theorem finalA_2 (c : Dev nD) : finalA m ρ c (2 : Fin 5) = m ((c : Thread nD τ).loc main_arg2) := (dats (F := F) m ρ 0 c).arrAt_in (2 : Fin 5) rfl _
theorem finalA_3 (c : Dev nD) : finalA m ρ c (3 : Fin 5) = m ((c : Thread nD τ).loc main_arg3) := (dats (F := F) m ρ 0 c).arrAt_in (3 : Fin 5) rfl _

end Cert.Moe

end
-- ==== Proof.Frames.lean ====
/-
The frames: the kernel as printed and its reading at the ideal numbers end with their operands unchanged and every counter
at zero; so does the reference.
-/
module

public import proofs.«01_k».proof.Defs
public import proofs.«01_k».proof.Proof.Start
public import proofs.«01_k».proof.Proof.Gen.Kernel
public import proofs.«01_k».proof.Proof.Gen.Kernel.Frame
public import Idealize.ShloMosaic.Lib.Quiescent
public import proofs.«01_k».proof.Proof.Gen.ReferenceIdeal
public import proofs.«01_k».proof.Proof.Gen.ReferenceIdeal.Run
public import proofs.«01_k».proof.Proof.Gen.Pre_fits_KernelIdeal
public import proofs.«01_k».proof.Proof.Gen.Pre_fits_ReferenceIdeal

@[expose] public section

noncomputable section

namespace Cert.Moe

open Idealize.ShloMosaic Idealize.ShloMosaic.TcCoe Idealize.SL.Sem

/-- On any float values the kernel keeps its operands and ends quiet, with its result at the computed contents. -/
theorem run_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_v1) = finalA m ρ c (4 : Fin 5)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨h.1 c 4, (h.1 c 0).trans (finalA_0 m ρ c), (h.1 c 1).trans (finalA_1 m ρ c), (h.1 c 2).trans (finalA_2 m ρ c), (h.1 c 3).trans (finalA_3 m ρ c)⟩, h.2⟩)
    (run_main m ρ)

/-- The two programs run the same bodies. -/
theorem same_defs₀ {F : FTy → Type} [FloatOps F] : Cert.Kernel.defs₀ (F := F) = Cert.KernelIdeal.defs₀ (F := F) := by
  unfold Cert.Kernel.defs₀ Cert.KernelIdeal.defs₀
  congr 1
  funext ℓ x
  match ℓ, x with
  | 0, (t, s) => rfl
theorem same_defs {F : FTy → Type} [FloatOps F] : Cert.Kernel.defs (F := F) = Cert.KernelIdeal.defs (F := F) :=
  congrArg (Pipeline.defs (Cert.KernelIdeal.pcfgs (F := F))) same_defs₀

/-- The kernel as printed keeps its operands and ends quiet: it is the same program text. -/
theorem frame_kernel : Cert.quiescent_Kernel := fun m ρ _ => by
  have h := (θ_run (Cert.KernelIdeal.defs (F := Bits)) (onTc (τ := Cert.KernelIdeal.τ) (Cert.KernelIdeal.main (F := Bits))) ⟨m, fun _ => 0, ρ⟩).mono
    (fun _ h => (⟨fun c => (h.1 c).2, h.2⟩ : (∀ c, _) ∧ _)) (run_any m ρ)
  rw [← same_defs] at h
  exact h

theorem frame_ideal : Cert.quiescent_KernelIdeal := fun m ρ _ =>
  (θ_run Cert.KernelIdeal.defs _ _).mono (fun _ h => ⟨fun c => (h.1 c).2, h.2⟩) (run_any m ρ)
theorem frame_ideal_fits : Cert.quiescent_KernelIdeal_pre_fits_KernelIdeal := fun m ρ _ =>
  (θ_run Cert.KernelIdeal.defs _ _).mono (fun _ h => ⟨fun c => (h.1 c).2, h.2⟩) (run_any m ρ)

/-- The reference keeps its operands. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)
theorem frame_reference_fits : Cert.quiescent_ReferenceIdeal_pre_fits_ReferenceIdeal := fun m ρ _ =>
  (θ_run Cert.ReferenceIdeal.defs _ _).mono (fun r h => ⟨fun c => (h c).2, sem_eq_zero_of_no_sems (by decide) r.2⟩) (Cert.ReferenceIdeal.Value.run m ρ)

end Cert.Moe

end
-- ==== Proof.Pick.lean ====
module

public import Mathlib.Data.EReal.Operations
public import Mathlib.Algebra.BigOperators.Group.Finset.Basic
public import Mathlib.Algebra.BigOperators.Fin

/-!
# Picking tokens by one-hot rows

The tokens that choose one expert are numbered in order: a token's number is how many earlier tokens chose the same
expert.  A 0/1 matrix with a row per slot and a column per token marks a token's slot.  Multiplying by the matrix lays
the chosen tokens out slot by slot, and multiplying by its transpose brings the slots' results back to the tokens.
-/

@[expose] public section

noncomputable section

namespace Cert.Moe

open scoped BigOperators

variable {N C : ℕ}

/-- How many tokens before `t` are chosen. -/
def rank (S : Fin N → Prop) [DecidablePred S] (t : Fin N) : ℕ := (Finset.univ.filter fun j : Fin N => j < t ∧ S j).card

/-- How many tokens up to `t`, with `t` itself, are chosen. -/
def upTo (S : Fin N → Prop) [DecidablePred S] (t : Fin N) : ℕ := (Finset.univ.filter fun j : Fin N => j ≤ t ∧ S j).card

/-- How many tokens are chosen in all. -/
def total (S : Fin N → Prop) [DecidablePred S] : ℕ := (Finset.univ.filter fun j : Fin N => S j).card

/-- The marker of slot `r` at token `t`. -/
def hot (S : Fin N → Prop) [DecidablePred S] (r : Fin C) (t : Fin N) : EReal := if S t ∧ rank S t = r.val then 1 else 0

/-- A chosen token's count with itself is one more than its count without. -/
theorem upTo_of_mem {S : Fin N → Prop} [DecidablePred S] {t : Fin N} (h : S t) : upTo S t = rank S t + 1 := by
  unfold upTo rank
  rw [show (Finset.univ.filter fun j : Fin N => j ≤ t ∧ S j) = insert t (Finset.univ.filter fun j : Fin N => j < t ∧ S j) from ?_,
    Finset.card_insert_of_notMem (by simp)]
  ext j
  simp only [Finset.mem_filter, Finset.mem_univ, true_and, Finset.mem_insert]
  constructor
  · rintro ⟨hle, hs⟩
    rcases hle.lt_or_eq with h1 | h1
    · exact Or.inr ⟨h1, hs⟩
    · exact Or.inl h1
  · rintro (rfl | ⟨h1, hs⟩)
    · exact ⟨le_rfl, h⟩
    · exact ⟨h1.le, hs⟩

/-- A chosen token's number is below the count of all chosen tokens. -/
theorem rank_lt_total {S : Fin N → Prop} [DecidablePred S] {t : Fin N} (h : S t) : rank S t < total S := by
  refine Finset.card_lt_card ⟨fun j hj => ?_, fun hsub => ?_⟩
  · simp only [Finset.mem_filter, Finset.mem_univ, true_and] at hj ⊢; exact hj.2
  · have := hsub (Finset.mem_filter.2 ⟨Finset.mem_univ t, h⟩)
    simp at this

/-- An earlier chosen token has a smaller number. -/
theorem rank_lt_rank {S : Fin N → Prop} [DecidablePred S] {j t : Fin N} (hj : S j) (h : j < t) : rank S j < rank S t := by
  refine Finset.card_lt_card ⟨fun i hi => ?_, fun hsub => ?_⟩
  · simp only [Finset.mem_filter, Finset.mem_univ, true_and] at hi ⊢; exact ⟨hi.1.trans h, hi.2⟩
  · have := hsub (Finset.mem_filter.2 ⟨Finset.mem_univ j, h, hj⟩)
    simp at this

/-- Two chosen tokens with the same number are the same token. -/
theorem rank_inj {S : Fin N → Prop} [DecidablePred S] {j t : Fin N} (hj : S j) (ht : S t) (e : rank S j = rank S t) : j = t := by
  rcases lt_trichotomy j t with h | h | h
  · exact absurd e (rank_lt_rank hj h).ne
  · exact h
  · exact absurd e (rank_lt_rank ht h).ne'

/-- A slot's row of the product is the token that holds the slot. -/
theorem gather {S : Fin N → Prop} [DecidablePred S] {t : Fin N} (ht : S t) {r : Fin C} (hr : rank S t = r.val) (x : Fin N → EReal) :
    ∑ j : Fin N, hot S r j * x j = x t := by
  rw [Finset.sum_eq_single t]
  · simp [hot, ht, hr]
  · intro j _ hne
    rw [hot, if_neg, zero_mul]
    rintro ⟨hj, e⟩
    exact hne (rank_inj hj ht (e.trans hr.symm))
  · intro h; exact absurd (Finset.mem_univ t) h

/-- Bringing the slots back: a chosen token gets its slot's entry, any other token gets zero. -/
theorem scatter {S : Fin N → Prop} [DecidablePred S] {t : Fin N} (hC : S t → rank S t < C) (y : Fin C → EReal) :
    ∑ r : Fin C, hot S r t * y r = if h : S t then y ⟨rank S t, hC h⟩ else 0 := by
  split_ifs with h
  · rw [Finset.sum_eq_single (⟨rank S t, hC h⟩ : Fin C)]
    · simp [hot, h]
    · intro r _ hne
      rw [hot, if_neg, zero_mul]
      rintro ⟨_, e⟩
      exact hne (Fin.ext e.symm)
    · intro h; exact absurd (Finset.mem_univ _) h
  · refine Finset.sum_eq_zero fun r _ => ?_
    rw [hot, if_neg (fun h' => h h'.1), zero_mul]

/-- Laying the chosen tokens out, working on every slot's row alone and bringing the rows back is working on every chosen
    token's own row. -/
theorem scatter_gather {S : Fin N → Prop} [DecidablePred S] {t : Fin N} (hC : S t → rank S t < C) {K : ℕ}
    (x : Fin N → Fin K → EReal) (Φ : (Fin K → EReal) → EReal) :
    ∑ r : Fin C, hot S r t * Φ (fun k => ∑ j : Fin N, hot S r j * x j k) = if S t then Φ (x t) else 0 := by
  rw [scatter hC]
  by_cases h : S t
  · rw [dif_pos h, if_pos h]
    exact congrArg Φ (funext fun k => gather h rfl fun j => x j k)
  · rw [dif_neg h, if_neg h]

end Cert.Moe

end
-- ==== Proof.Masks.lean ====
/-
The one-hot matrices of the kernel read entry by entry: the entry of slot `r` and token `t` is one when the token chose
the expert and exactly `r` earlier tokens chose it, and zero otherwise.
-/
module

public import proofs.«01_k».proof.Proof.Pick
public import proofs.«01_k».proof.Proof.Proto
public import Idealize.ShloMosaic.Lib.Pipeline.Value
public import Idealize.ShloMosaic.Lib.MatmulPlain
public import Idealize.ShloMosaic.Lib.IdealHost

@[expose] public section

noncomputable section

namespace Cert.Moe

open Cert.KernelIdeal Cert.KernelIdeal.Gen

open Idealize.ShloMosaic
open Idealize.ShloMosaic.TcCoe
open Idealize.ShloMosaic.ValueIdx
open scoped BigOperators

/-- The word of expert number `b` counted from the word `w`. -/
def word (w : BitVec 32) (b : ℕ) : BitVec 32 := w + BitVec.ofNat 32 b

/-- Token `t` chose the expert of the word `e`. -/
abbrev chose (a : Vec Ideal S512 .i32) (e : BitVec 32) (t : Fin 512) : Prop := (a (ix1 t) : BitVec 32) = e

/-- A one-bit comparison of equal words, widened and read as a number, is one or zero. -/
theorem bit_val (p : BitVec 32 → BitVec 32 → Prop) [∀ x y, Decidable (p x y)] (b : BitVec 1) (x y : BitVec 32)
    (h : b = if p x y then 1#1 else 0#1) : (((b.setWidth 32).toInt : ℝ) : EReal) = if p x y then 1 else 0 := by
  subst h
  split_ifs
  · rw [show ((1#1 : BitVec 1).setWidth 32).toInt = 1 from by decide]; simp
  · rw [show ((0#1 : BitVec 1).setWidth 32).toInt = 0 from by decide]; simp

/-- The bit of an equality. -/
theorem eq_bit (x y : BitVec 32) : IntOp.cmpi .eq x y = if x = y then 1#1 else 0#1 := by
  show BitVec.ofBool (x == y) = _
  by_cases h : x = y
  · rw [if_pos h, beq_iff_eq.2 h]; rfl
  · rw [if_neg h, beq_eq_false_iff_ne.2 h]; rfl

/-- The bit of a signed comparison. -/
theorem sle_bit (x y : BitVec 32) : IntOp.cmpi .sle x y = if x.toInt ≤ y.toInt then 1#1 else 0#1 := by
  show BitVec.ofBool (x.sle y) = _
  by_cases h : x.toInt ≤ y.toInt <;> simp [h, BitVec.sle]

/-- A small number's word read back. -/
theorem toInt_small {n : ℕ} (h : n < 1024) : (BitVec.ofNat 32 n).toInt = n := by
  rw [BitVec.toInt_eq_toNat_of_lt (by rw [BitVec.toNat_ofNat]; omega), BitVec.toNat_ofNat, Nat.mod_eq_of_lt (by omega)]

/-- The triangle of ones: entry `(j, t)` is one when `j ≤ t`. -/
theorem tri_apply (j t : Fin 512) : (k0_pay1 (F := Ideal)) (ix2 j t) = if j ≤ t then 1 else 0 := by
  have h1 : (iota .tc S512x512 32 [0] iota_S512x512_d0_w32) (ix2 j t) = BitVec.ofNat 32 j.val := iota_single_apply _ _ _ _ _ _
  have h2 : (iota .tc S512x512 32 [1] iota_S512x512_d1_w32) (ix2 j t) = BitVec.ofNat 32 t.val := iota_single_apply _ _ _ _ _ _
  show ((((IntOp.cmpi .sle ((iota .tc S512x512 32 [0] iota_S512x512_d0_w32) (ix2 j t)) ((iota .tc S512x512 32 [1] iota_S512x512_d1_w32) (ix2 j t))).setWidth 32).toInt : ℝ) : EReal) = _
  rw [h1, h2, bit_val (fun x y => x.toInt ≤ y.toInt) _ _ _ (sle_bit _ _), toInt_small (by omega), toInt_small (by omega)]
  simp only [Nat.cast_le, Fin.le_def]

/-- The 0/1 rows of the two experts counted from `w`. -/
def maskOf (w : BitVec 32) (a : Vec Ideal S512 .i32) : FVec Ideal S2x512 .bf16 :=
  truncf .bf16 (sitofp .f32 (extui 32 (cmpi .eq
    (broadcastTo S2x512 (shapeCast S1x512 (shapeCast S512 a shapeCasts_S512_S512) shapeCasts_S512_S1x512) broadcasts_S1x512_S2x512)
    (broadcastTo S2x512 (addi (broadcast S2x1 w) (iota .tc S2x1 32 [0] iota_S2x1_d0_w32)) broadcasts_S2x1_S2x512)) natLt_1_32)) bitsLt_bf16_f32

theorem maskOf_apply (w : BitVec 32) (a : Vec Ideal S512 .i32) (b : Fin 2) (t : Fin 512) :
    maskOf w a (ix2 b t) = if chose a (word w b) t then 1 else 0 := by
  have h1 : (broadcastTo S2x512 (shapeCast S1x512 (shapeCast S512 a shapeCasts_S512_S512) shapeCasts_S512_S1x512) broadcasts_S1x512_S2x512) (ix2 b t)
      = a (ix1 t) := by
    rw [shapeCast_self]
    refine (broadcastTo_apply _ _ _ (ix2 (0 : Fin 1) t) fun x => ?_).trans (shapeCast_apply _ _ _ (ix1 t) ?_)
    · match x with
      | ⟨0, _⟩ => rfl
      | ⟨1, _⟩ => rfl
    · rw [Shape.rowMajor_val_two, Shape.rowMajor_val_one]
      show t.val = 0 * 512 + t.val
      omega
  have h2 : (broadcastTo S2x512 (addi (broadcast S2x1 w) (iota .tc S2x1 32 [0] iota_S2x1_d0_w32)) broadcasts_S2x1_S2x512) (ix2 b t)
      = word w b := by
    refine (broadcastTo_apply _ _ _ (ix2 b (0 : Fin 1)) fun x => ?_).trans ?_
    · match x with
      | ⟨0, _⟩ => rfl
      | ⟨1, _⟩ => rfl
    · show w + (iota .tc S2x1 32 [0] iota_S2x1_d0_w32) (ix2 b (0 : Fin 1)) = _
      rw [iota_single_apply]
      rfl
  show ((((IntOp.cmpi .eq ((broadcastTo S2x512 (shapeCast S1x512 (shapeCast S512 a shapeCasts_S512_S512) shapeCasts_S512_S1x512) broadcasts_S1x512_S2x512) (ix2 b t))
    ((broadcastTo S2x512 (addi (broadcast S2x1 w) (iota .tc S2x1 32 [0] iota_S2x1_d0_w32)) broadcasts_S2x1_S2x512) (ix2 b t))).setWidth 32).toInt : ℝ) : EReal) = _
  rw [h1, h2, bit_val (fun x y => x = y) _ _ _ (eq_bit _ _)]

/-- A sum of zeros and ones is the number of the ones. -/
theorem sum_ones {ι : Type} (s : Finset ι) (p : ι → Prop) [DecidablePred p] :
    ∑ k ∈ s, (if p k then (1 : EReal) else 0) = ((((s.filter p).card : ℕ) : ℝ) : EReal) := by
  classical
  induction s using Finset.induction_on with
  | empty => simp
  | insert k s hk ih =>
    rw [Finset.sum_insert hk, ih, Finset.filter_insert]
    by_cases h : p k
    · rw [if_pos h, if_pos h, Finset.card_insert_of_notMem (fun hm => hk (Finset.mem_filter.1 hm).1), ← EReal.coe_one, ← EReal.coe_add]
      congr 1
      push_cast
      exact add_comm _ _
    · rw [if_neg h, if_neg h, zero_add]

/-- The running counts of the two experts' tokens. -/
def countOf (w : BitVec 32) (a : Vec Ideal S512 .i32) : FVec Ideal S2x512 .f32 :=
  matmul dot_S2x512_S512x512_S2x512_1_0_0_1_n_n none (maskOf w a) (k0_pay1 (F := Ideal)) (constant S2x512 .f32 0x00000000#32)

/-- A running count is the number of tokens up to this one that chose the expert. -/
theorem countOf_apply (w : BitVec 32) (a : Vec Ideal S512 .i32) (b : Fin 2) (t : Fin 512) :
    countOf w a (ix2 b t) = (((upTo (chose a (word w b)) t : ℕ) : ℝ) : EReal) := by
  have h := Ideal.matmul_plain_apply (M := 2) (K := 512) (N := 512) none (maskOf w a) (k0_pay1 (F := Ideal)) (constant S2x512 .f32 0x00000000#32) b t
  refine Eq.trans (b := _) h ?_
  rw [show (constant (F := Ideal) S2x512 .f32 0x00000000#32) (ix2 b t) = 0 from Ideal.ofBits_zero_f32, zero_add]
  have hs : ∀ k : Fin 512, maskOf w a (ix2 b k) * (k0_pay1 (F := Ideal)) (ix2 k t)
      = if k ≤ t ∧ chose a (word w b) k then 1 else 0 := by
    intro k
    rw [maskOf_apply, tri_apply]
    by_cases h1 : chose a (word w b) k
    · by_cases h2 : k ≤ t
      · rw [if_pos h1, if_pos h2, if_pos ⟨h2, h1⟩, one_mul]
      · rw [if_neg h2, if_neg (fun q : k ≤ t ∧ chose a (word w b) k => h2 q.1), mul_zero]
    · rw [if_neg h1, if_neg (fun q : k ≤ t ∧ chose a (word w b) k => h1 q.2), zero_mul]
  rw [Finset.sum_congr rfl fun k _ => hs k, sum_ones]
  rfl

/-- The slots of the two experts' tokens: a token's number among the expert's tokens, or minus one. -/
def slotOf (w : BitVec 32) (a : Vec Ideal S512 .i32) : IVec S2x512 32 :=
  k0_pay5 (maskOf w a) (countOf w a) (extf .f32 (maskOf w a) bitsLt_bf16_f32)

theorem ofBits_minus_one : Ideal.ofBits .f32 0xBF800000#32 = ((-(1 : ℝ) : ℝ) : EReal) := by
  simp [Ideal.ofBits, Ideal.ieee, -EReal.coe_mul, -EReal.coe_neg]; norm_num

/-- A small whole number converts to its own word. -/
theorem fptosi_nat {n : ℕ} (h : n < 1024) : Ideal.fptosi 32 (((n : ℕ) : ℝ) : EReal) = BitVec.ofNat 32 n := by
  rw [Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = n := by
    norm_num; omega
  rw [this]
  exact BitVec.ofInt_natCast 32 n

theorem fptosi_minus_one : Ideal.fptosi 32 ((-(1 : ℝ) : ℝ) : EReal) = BitVec.ofInt 32 (-1) := by
  rw [Ideal.fptosi, Ideal.toIntClamped_coe]
  norm_num

theorem slotOf_apply (w : BitVec 32) (a : Vec Ideal S512 .i32) (b : Fin 2) (t : Fin 512) :
    slotOf w a (ix2 b t) = if chose a (word w b) t then BitVec.ofNat 32 (rank (chose a (word w b)) t) else BitVec.ofInt 32 (-1) := by
  show Ideal.fptosi 32 (Scalar.select (Ideal.cmp .ogt (maskOf w a (ix2 b t)) (Ideal.ofBits .bf16 0x0000#16))
    (countOf w a (ix2 b t) - maskOf w a (ix2 b t)) (Ideal.ofBits .f32 0xBF800000#32)) = _
  rw [maskOf_apply, countOf_apply, Ideal.ofBits_zero_bf16, ofBits_minus_one]
  by_cases h : chose a (word w b) t
  · rw [if_pos h, if_pos h, upTo_of_mem h]
    rw [show Ideal.cmp .ogt (1 : EReal) 0 = 1#1 from by simp [Ideal.cmp], select_one]
    have hlt : rank (chose a (word w b)) t < 1024 := by
      have h1 := rank_lt_total h
      have h2 : total (chose a (word w b)) ≤ 512 := (Finset.card_filter_le _ _).trans (by simp)
      omega
    rw [← fptosi_nat hlt, ← EReal.coe_one, ← EReal.coe_sub]
    have e : ((rank (chose a (word w b)) t + 1 : ℕ) : ℝ) - 1 = (rank (chose a (word w b)) t : ℕ) := by push_cast; ring
    rw [e]
  · rw [if_neg h, if_neg h]
    rw [show Ideal.cmp .ogt (0 : EReal) 0 = 0#1 from by simp [Ideal.cmp], select_zero]
    exact fptosi_minus_one

/-- The one-hot matrix of the slots in a row of 512 words. -/
def hotOf (v : IVec S1x512 32) : FVec Ideal S144x512 .bf16 :=
  truncf .bf16 (sitofp .f32 (extui 32 (cmpi .eq io23 (broadcastTo S144x512 v broadcasts_S1x512_S144x512)) natLt_1_32)) bitsLt_bf16_f32

theorem hotOf_apply (v : IVec S1x512 32) (r : Fin 144) (t : Fin 512) :
    hotOf v (ix2 r t) = if BitVec.ofNat 32 r.val = v (ix2 (0 : Fin 1) t) then 1 else 0 := by
  have h1 : io23 (ix2 r t) = BitVec.ofNat 32 r.val := iota_single_apply _ _ _ _ _ _
  have h2 : (broadcastTo S144x512 v broadcasts_S1x512_S144x512) (ix2 r t) = v (ix2 (0 : Fin 1) t) := by
    refine broadcastTo_apply _ _ _ _ fun x => ?_
    match x with
    | ⟨0, _⟩ => rfl
    | ⟨1, _⟩ => rfl
  show ((((IntOp.cmpi .eq (io23 (ix2 r t)) ((broadcastTo S144x512 v broadcasts_S1x512_S144x512) (ix2 r t))).setWidth 32).toInt : ℝ) : EReal) = _
  rw [h1, h2, bit_val (fun x y => x = y) _ _ _ (eq_bit _ _)]

/-- The one-hot matrix of an expert marks the slot of every token that chose it. -/
theorem hot_slot (w : BitVec 32) (a : Vec Ideal S512 .i32) (b : Fin 2) (v : IVec S1x512 32)
    (hv : ∀ t : Fin 512, v (ix2 (0 : Fin 1) t) = slotOf w a (ix2 b t)) (r : Fin 144) (t : Fin 512) :
    hotOf v (ix2 r t) = hot (chose a (word w b)) r t := by
  rw [hotOf_apply, hv, slotOf_apply, hot]
  by_cases h : chose a (word w b) t
  · rw [if_pos h]
    have hlt : rank (chose a (word w b)) t < 1024 := by
      have h1 := rank_lt_total h
      have h2 : total (chose a (word w b)) ≤ 512 := (Finset.card_filter_le _ _).trans (by simp)
      omega
    refine if_congr ⟨fun e => ⟨h, ?_⟩, fun e => by rw [e.2]⟩ rfl rfl
    have := congrArg BitVec.toInt e
    rw [toInt_small (by omega), toInt_small hlt] at this
    omega
  · rw [if_neg h, if_neg (fun q : chose a (word w b) t ∧ rank (chose a (word w b)) t = r.val => h q.1), if_neg]
    intro e
    have := congrArg BitVec.toInt e
    rw [toInt_small (by omega), show (BitVec.ofInt 32 (-1)).toInt = -1 from by decide] at this
    omega

/-- The word of the first expert of the partner. -/
abbrev pbase (c : Dev nD) : BitVec 32 :=
  Scalar.muli (Scalar.subi 1#32 (Scalar.remsi (Scalar.divsi (Dev.word c) 8#32) 2#32)) 2#32

/-- The row of the slots that a slice cuts out. -/
theorem cut_row {o : ℕ} (b : Fin 2) (hb : o = b.val) (v : IVec S2x512 32) (h : S2x512.Slices ![o, 0] S1x512) (t : Fin 512) :
    extractStridedSlice S1x512 ![o, 0] v h (ix2 (0 : Fin 1) t) = v (ix2 b t) := by
  refine extractStridedSlice_apply _ _ _ _ _ fun x => ?_
  match x with
  | ⟨0, _⟩ => exact hb.symm
  | ⟨1, _⟩ => exact (Nat.zero_add _).symm

section Entries

variable (m : (ℓ : Loc nD τ sig) → Buf (Elt Ideal) ℓ) (ρ : Dev nD → PrngReg) (c : Dev nD) (r : Fin 144) (t : Fin 512)

theorem P0_apply : P0 m ρ c (ix2 r t) = hot (chose (av m ρ c) (word (pbase c) 0)) r t :=
  hot_slot (pbase c) (av m ρ c) 0 _ (cut_row 0 rfl _ _) r t

theorem P1_apply : P1 m ρ c (ix2 r t) = hot (chose (av m ρ c) (word (pbase c) 1)) r t :=
  hot_slot (pbase c) (av m ρ c) 1 _ (cut_row 1 rfl _ _) r t

theorem L0_apply : L0 m ρ c (ix2 r t) = hot (chose (av m ρ c) (word (base c) 0)) r t :=
  hot_slot (base c) (av m ρ c) 0 _ (cut_row 0 rfl _ _) r t

theorem L1_apply : L1 m ρ c (ix2 r t) = hot (chose (av m ρ c) (word (base c) 1)) r t :=
  hot_slot (base c) (av m ρ c) 1 _ (cut_row 1 rfl _ _) r t

end Entries

end Cert.Moe

end
-- ==== Proof.Output.lean ====
/-
The kernel's result read entry by entry: a token's row is its expert's two-layer network on the token's own row.
-/
module

public import proofs.«01_k».proof.Proof.Masks

@[expose] public section

noncomputable section

namespace Cert.Moe

open Cert.KernelIdeal Cert.KernelIdeal.Gen

open Idealize.ShloMosaic
open Idealize.ShloMosaic.TcCoe
open Idealize.ShloMosaic.ValueIdx
open scoped BigOperators

/-- One expert's two-layer network on one row: a product, negative entries set to zero, a second product. -/
def expertRow (w1 : Fin 512 → Fin 1024 → EReal) (w2 : Fin 1024 → Fin 512 → EReal) (d : Fin 512) (row : Fin 512 → EReal) : EReal :=
  ∑ k : Fin 1024, max (∑ j : Fin 512, row j * w1 j k) 0 * w2 k d

/-- The weights of one expert with their unit axis dropped. -/
abbrev up (w : Vec Ideal S1x512x1024 .bf16) : Fin 512 → Fin 1024 → EReal := fun j k => w (ix3 (0 : Fin 1) j k)
abbrev down (w : Vec Ideal S1x1024x512 .bf16) : Fin 1024 → Fin 512 → EReal := fun k d => w (ix3 (0 : Fin 1) k d)

/-- A slot block of the gathered rows. -/
theorem gathered (P : FVec Ideal S144x512 .bf16) (x : FVec Ideal S512x512 .bf16) (r : Fin 144) (j : Fin 512) :
    matmul dot_S144x512_S512x512_S144x512_1_0_0_1_n_n none P x (constant S144x512 .f32 0x00000000#32) (ix2 r j)
      = ∑ t : Fin 512, P (ix2 r t) * x (ix2 t j) := by
  have h := Ideal.matmul_plain_apply (M := 144) (K := 512) (N := 512) none P x (constant S144x512 .f32 0x00000000#32) r j
  refine Eq.trans (b := _) h ?_
  rw [show (constant (F := Ideal) S144x512 .f32 0x00000000#32) (ix2 r j) = 0 from Ideal.ofBits_zero_f32, zero_add]

/-- The gathered rows in the narrow format. -/
def laid (P : FVec Ideal S144x512 .bf16) (x : FVec Ideal S512x512 .bf16) : FVec Ideal S144x512 .bf16 :=
  truncf .bf16 (matmul dot_S144x512_S512x512_S144x512_1_0_0_1_n_n none P x (constant S144x512 .f32 0x00000000#32)) bitsLt_bf16_f32

/-- The rows brought back to the tokens: a product that sums over the slots. -/
theorem returned (P : FVec Ideal S144x512 .bf16) (y : FVec Ideal S144x512 .bf16) (t d : Fin 512) :
    matmul dot_S144x512_S144x512_S512x512_0_0_1_1_n_n none P y (constant S512x512 .f32 0x00000000#32) (ix2 t d)
      = ∑ r : Fin 144, P (ix2 r t) * y (ix2 r d) := by
  have e1 : dot_S144x512_S144x512_S512x512_0_0_1_1_n_n.contr.rank = 1 := rfl
  have e2 : dot_S144x512_S144x512_S512x512_0_0_1_1_n_n.contr.size ⟨0, by rw [e1]; exact Nat.one_pos⟩ = 144 := rfl
  show FloatOps.matmul dot_S144x512_S144x512_S512x512_0_0_1_1_n_n none P y (constant S512x512 .f32 0x00000000#32) (ix2 t d) = _
  rw [Ideal.matmul_apply, ← Equiv.sum_comp (contrEquiv1 _ 144 e1 e2).symm,
    show (constant (F := Ideal) S512x512 .f32 0x00000000#32) (ix2 t d) = 0 from Ideal.ofBits_zero_f32, zero_add]
  refine Finset.sum_congr rfl fun r _ => ?_
  have hk := contrEquiv1_symm_val _ 144 e1 e2 r
  have el : dot_S144x512_S144x512_S512x512_0_0_1_1_n_n.lhsIdx (ix2 t d) ((contrEquiv1 _ 144 e1 e2).symm r) = ix2 r t := by
    funext a; apply Fin.ext
    match a with
    | ⟨0, _⟩ => exact hk
    | ⟨1, _⟩ => rfl
  have er : dot_S144x512_S144x512_S512x512_0_0_1_1_n_n.rhsIdx (ix2 t d) ((contrEquiv1 _ 144 e1 e2).symm r) = ix2 r d := by
    funext a; apply Fin.ext
    match a with
    | ⟨0, _⟩ => exact hk
    | ⟨1, _⟩ => rfl
  rw [el, er]

/-- The first layer on a block of slots. -/
def hidden (X : FVec Ideal S144x512 .bf16) (w1 : Vec Ideal S1x512x1024 .bf16) : FVec Ideal S144x1024 .bf16 :=
  truncf .bf16 (maximumf (matmul (φ₂ := .bf16) dot_S144x512_S512x1024_S144x1024_1_0_0_1_n_n none X
    (shapeCast S512x1024 w1 shapeCasts_S1x512x1024_S512x1024) (constant S144x1024 .f32 0x00000000#32))
    (broadcast S144x1024 (Scalar.ofBits .f32 0x00000000#32))) bitsLt_bf16_f32

theorem hidden_apply (X : FVec Ideal S144x512 .bf16) (w1 : Vec Ideal S1x512x1024 .bf16) (r : Fin 144) (k : Fin 1024) :
    hidden X w1 (ix2 r k) = max (∑ j : Fin 512, X (ix2 r j) * up w1 j k) 0 := by
  have h := Ideal.matmul_plain_apply (M := 144) (K := 512) (N := 1024) (φ₁ := .bf16) (φ₂ := .bf16) none X
    (shapeCast S512x1024 w1 shapeCasts_S1x512x1024_S512x1024) (constant S144x1024 .f32 0x00000000#32) r k
  rw [show (constant (F := Ideal) S144x1024 .f32 0x00000000#32) (ix2 r k) = 0 from Ideal.ofBits_zero_f32, zero_add] at h
  have hw : ∀ j : Fin 512, (shapeCast S512x1024 w1 shapeCasts_S1x512x1024_S512x1024) (ix2 j k) = up w1 j k := by
    intro j
    refine shapeCast_apply _ _ _ (ix3 (0 : Fin 1) j k) ?_
    rw [Shape.rowMajor_val_two, Shape.rowMajor_val_three]
    show (0 * 512 + j.val) * 1024 + k.val = j.val * 1024 + k.val
    omega
  have h' := h.trans (Finset.sum_congr rfl fun j _ => congrArg (X (ix2 r j) * ·) (hw j))
  exact congrArg₂ max h' Ideal.ofBits_zero_f32

/-- The second layer on a block of slots. -/
def second (H : FVec Ideal S144x1024 .bf16) (w2 : Vec Ideal S1x1024x512 .bf16) : FVec Ideal S144x512 .bf16 :=
  truncf .bf16 (matmul (φ₂ := .bf16) dot_S144x1024_S1024x512_S144x512_1_0_0_1_n_n none H
    (shapeCast S1024x512 w2 shapeCasts_S1x1024x512_S1024x512) (constant S144x512 .f32 0x00000000#32)) bitsLt_bf16_f32

theorem second_apply (H : FVec Ideal S144x1024 .bf16) (w2 : Vec Ideal S1x1024x512 .bf16) (r : Fin 144) (d : Fin 512) :
    second H w2 (ix2 r d) = ∑ k : Fin 1024, H (ix2 r k) * down w2 k d := by
  have h := Ideal.matmul_plain_apply (M := 144) (K := 1024) (N := 512) (φ₁ := .bf16) (φ₂ := .bf16) none H
    (shapeCast S1024x512 w2 shapeCasts_S1x1024x512_S1024x512) (constant S144x512 .f32 0x00000000#32) r d
  rw [show (constant (F := Ideal) S144x512 .f32 0x00000000#32) (ix2 r d) = 0 from Ideal.ofBits_zero_f32, zero_add] at h
  have hw : ∀ k : Fin 1024, (shapeCast S1024x512 w2 shapeCasts_S1x1024x512_S1024x512) (ix2 k d) = down w2 k d := by
    intro k
    refine shapeCast_apply _ _ _ (ix3 (0 : Fin 1) k d) ?_
    rw [Shape.rowMajor_val_two, Shape.rowMajor_val_three]
    show (0 * 1024 + k.val) * 512 + d.val = k.val * 512 + d.val
    omega
  exact h.trans (Finset.sum_congr rfl fun k _ => congrArg (H (ix2 r k) * ·) (hw k))

/-- A block of slots through one expert, row by row. -/
theorem expert_block (X : FVec Ideal S144x512 .bf16) (w1 : Vec Ideal S1x512x1024 .bf16) (w2 : Vec Ideal S1x1024x512 .bf16)
    (r : Fin 144) (d : Fin 512) :
    second (hidden X w1) w2 (ix2 r d) = expertRow (up w1) (down w2) d fun j => X (ix2 r j) := by
  rw [second_apply, expertRow]
  exact Finset.sum_congr rfl fun k _ => by rw [hidden_apply]

/-- The tokens of one expert gathered, put through the expert, and brought back. -/
theorem through (S : Fin 512 → Prop) [DecidablePred S] (hC : ∀ t, S t → rank S t < 144)
    (P : FVec Ideal S144x512 .bf16) (hP : ∀ r t, P (ix2 r t) = hot S r t)
    (x : FVec Ideal S512x512 .bf16) (X : FVec Ideal S144x512 .bf16) (hX : ∀ r j, X (ix2 r j) = ∑ t : Fin 512, P (ix2 r t) * x (ix2 t j))
    (w1 : Vec Ideal S1x512x1024 .bf16) (w2 : Vec Ideal S1x1024x512 .bf16) (t d : Fin 512) :
    matmul dot_S144x512_S144x512_S512x512_0_0_1_1_n_n none P (second (hidden X w1) w2) (constant S512x512 .f32 0x00000000#32) (ix2 t d)
      = if S t then expertRow (up w1) (down w2) d (fun j => x (ix2 t j)) else 0 := by
  rw [returned, ← scatter_gather (hC t) (fun t j => x (ix2 t j)) (expertRow (up w1) (down w2) d)]
  refine Finset.sum_congr rfl fun r _ => ?_
  rw [expert_block, hP]
  congr 2
  funext j
  rw [hX]
  exact Finset.sum_congr rfl fun t' _ => by rw [hP]

section Result

variable (m : (ℓ : Loc nD τ sig) → Buf (Elt Ideal) ℓ) (ρ : Dev nD → PrngReg) (c : Dev nD)

theorem xl_val : xl m ρ c = xv m ρ c := by
  unfold xl k0_pay12 k0_pay11
  rw [shapeCast_self, shapeCast_self]

/-- The gathered rows a device sends. -/
theorem xs0_apply (r : Fin 144) (j : Fin 512) : xs0 m ρ c (ix2 r j) = ∑ t : Fin 512, P0 m ρ c (ix2 r t) * xv m ρ c (ix2 t j) := by
  unfold xs0 k0_pay13
  rw [shapeCast_self, xl_val]
  exact gathered _ _ r j

theorem xs1_apply (r : Fin 144) (j : Fin 512) : xs1 m ρ c (ix2 r j) = ∑ t : Fin 512, P1 m ρ c (ix2 r t) * xv m ρ c (ix2 t j) := by
  unfold xs1 k0_pay14
  rw [shapeCast_self, xl_val]
  exact gathered _ _ r j

/-- The blocks a device sends back. -/
theorem cs0_val : cs0 m ρ c = second (hidden (xs0 m ρ (peer c)) (w10 m ρ c)) (w20 m ρ c) := by
  exact shapeCast_self (second (hidden (xs0 m ρ (peer c)) (w10 m ρ c)) (w20 m ρ c)) shapeCasts_S144x512_S144x512

theorem cs1_val : cs1 m ρ c = second (hidden (xs1 m ρ (peer c)) (w11 m ρ c)) (w21 m ρ c) := by
  exact shapeCast_self (second (hidden (xs1 m ρ (peer c)) (w11 m ρ c)) (w21 m ρ c)) shapeCasts_S144x512_S144x512

/-- What one expert adds to a token's entry. -/
def part (S : Prop) [Decidable S] (w1 : Vec Ideal S1x512x1024 .bf16) (w2 : Vec Ideal S1x1024x512 .bf16) (t d : Fin 512) : EReal :=
  if S then expertRow (up w1) (down w2) d (fun j => xv m ρ c (ix2 t j)) else 0

/-- The device's own experts. -/
theorem o1_apply (hC : ∀ b : Fin 2, ∀ t, chose (av m ρ c) (word (base c) b) t → rank (chose (av m ρ c) (word (base c) b)) t < 144) (t d : Fin 512) :
    o1 m ρ c (ix2 t d) = part m ρ c (chose (av m ρ c) (word (base c) 0) t) (w10 m ρ c) (w20 m ρ c) t d
      + part m ρ c (chose (av m ρ c) (word (base c) 1) t) (w11 m ρ c) (w21 m ρ c) t d := by
  have h0 := through _ (hC 0) (L0 m ρ c) (L0_apply m ρ c) (xv m ρ c)
    (laid (L0 m ρ c) (xv m ρ c))
    (fun r j => gathered _ _ r j) (w10 m ρ c) (w20 m ρ c) t d
  have h1 := through _ (hC 1) (L1 m ρ c) (L1_apply m ρ c) (xv m ρ c)
    (laid (L1 m ρ c) (xv m ρ c))
    (fun r j => gathered _ _ r j) (w11 m ρ c) (w21 m ρ c) t d
  have hz : (k0_pay19 (F := Ideal)) (ix2 t d) = 0 := Ideal.ofBits_zero_f32
  unfold o1 part
  rw [xl_val]
  have e : k0_pay21 (L0 m ρ c) (L1 m ρ c) (k0_pay19 (F := Ideal)) (k0_pay20 (L0 m ρ c) (xv m ρ c) (w10 m ρ c)) (w20 m ρ c) (xv m ρ c) (w11 m ρ c) (w21 m ρ c)
      = addf (addf (k0_pay19 (F := Ideal))
          (matmul dot_S144x512_S144x512_S512x512_0_0_1_1_n_n none (L0 m ρ c) (second (hidden (laid (L0 m ρ c) (xv m ρ c)) (w10 m ρ c)) (w20 m ρ c)) (constant S512x512 .f32 0x00000000#32)))
          (matmul dot_S144x512_S144x512_S512x512_0_0_1_1_n_n none (L1 m ρ c) (second (hidden (laid (L1 m ρ c) (xv m ρ c)) (w11 m ρ c)) (w21 m ρ c)) (constant S512x512 .f32 0x00000000#32)) := rfl
  rw [e]
  refine (congrArg₂ (fun x y : EReal => x + y) (congrArg₂ (fun x y : EReal => x + y) hz h0) h1).trans ?_
  rw [zero_add]
  rfl

/-- The whole result: a sum over the four experts, of which a token's own one counts. -/
theorem outAt_apply (hC : ∀ b : Fin 2, ∀ t, chose (av m ρ c) (word (base c) b) t → rank (chose (av m ρ c) (word (base c) b)) t < 144)
    (hP : ∀ b : Fin 2, ∀ t, chose (av m ρ c) (word (pbase c) b) t → rank (chose (av m ρ c) (word (pbase c) b)) t < 144) (t d : Fin 512) :
    outAt m ρ c (ix2 t d) = part m ρ c (chose (av m ρ c) (word (base c) 0) t) (w10 m ρ c) (w20 m ρ c) t d
      + part m ρ c (chose (av m ρ c) (word (base c) 1) t) (w11 m ρ c) (w21 m ρ c) t d
      + part m ρ c (chose (av m ρ c) (word (pbase c) 0) t) (w10 m ρ (peer c)) (w20 m ρ (peer c)) t d
      + part m ρ c (chose (av m ρ c) (word (pbase c) 1) t) (w11 m ρ (peer c)) (w21 m ρ (peer c)) t d := by
  have h0 := through _ (hP 0) (P0 m ρ c) (P0_apply m ρ c) (xv m ρ c) (xs0 m ρ c) (xs0_apply m ρ c) (w10 m ρ (peer c)) (w20 m ρ (peer c)) t d
  have h1 := through _ (hP 1) (P1 m ρ c) (P1_apply m ρ c) (xv m ρ c) (xs1 m ρ c) (xs1_apply m ρ c) (w11 m ρ (peer c)) (w21 m ρ (peer c)) t d
  have e0 := cs0_val m ρ (peer c)
  have e1 := cs1_val m ρ (peer c)
  rw [peer_peer] at e0 e1
  unfold outAt o2 k0_pay23 k0_pay22
  rw [shapeCast_self, shapeCast_self, e0, e1]
  exact congrArg₂ (fun x y : EReal => x + y) (congrArg₂ (fun x y : EReal => x + y) (o1_apply m ρ c hC t d) h0) h1

end Result

end Cert.Moe

end
-- ==== Proof.Fits.lean ====
/-
What the precondition says: on every device, at most 144 tokens chose each of the four experts.
-/
module

public import proofs.«01_k».proof.Proof.Masks
public import proofs.«01_k».proof.Pre_fits_KernelIdeal
public import proofs.«01_k».proof.Proof.Gen.Pre_fits_KernelIdeal
public import Idealize.ShloMosaic.Lib.Routing.Ops

@[expose] public section

noncomputable section

namespace Cert.Moe

open Cert.Pre_fits_KernelIdeal Cert.Pre_fits_KernelIdeal.Gen

open Idealize.ShloMosaic
open Idealize.ShloMosaic.ValueIdx
open Idealize.ShloMosaic.Routing (reduce_count bcRows bcCols card_filter_fin shape0 shape1 shape2)

/-- The table of who chose whom. -/
def chart (a : IVec S512 32) : IVec S4x512 1 :=
  cmpi .eq (broadcastInDim S4x512 ![0, 1] bcast_S1x512_S4x512_0_1 (broadcastInDim S1x512 ![1] bcast_S512_S1x512_1 a))
    (broadcastInDim S4x512 ![0, 1] bcast_S4x1_S4x512_0_1 (broadcastInDim S4x1 ![0] bcast_S4_S4x1_0 (iotaInDim S4 32 0)))

theorem chart_apply (a : IVec S512 32) (e : Fin 4) (t : Fin 512) :
    chart a (ix2 e t) = if a (ix1 t) = BitVec.ofNat 32 e.val then 1#1 else 0#1 := by
  have h1 := bcCols (n := 4) (m := 512) bcast_S512_S1x512_1 bcast_S1x512_S4x512_0_1 a e t
  have h2 := bcRows (n := 4) (m := 512) bcast_S4_S4x1_0 bcast_S4x1_S4x512_0_1 (iotaInDim S4 32 0) e t
  have h3 : (iotaInDim S4 32 0) (ix1 e) = BitVec.ofNat 32 e.val := rfl
  refine (congrArg₂ (IntOp.cmpi .eq) h1 (h2.trans h3)).trans ?_
  exact eq_bit _ _

/-- The precondition bounds the number of tokens of every expert. -/
theorem fits_total (a0 : FVec Ideal S512x512 .bf16) (a : IVec S512 32) (a2 : FVec Ideal S2x512x1024 .bf16) (a3 : FVec Ideal S2x1024x512 .bf16)
    (h : fn (F := Ideal) a0 a a2 a3 = fun _ => 1#1) (e : Fin 4) : total (chose a (BitVec.ofNat 32 e.val)) ≤ 144 := by
  have hc := congrFun h (ix1 e)
  let Q : ℕ → Prop := fun n => ∃ hn : n < 512, a (ix1 (⟨n, hn⟩ : Fin 512)) = BitVec.ofNat 32 e.val
  have : DecidablePred Q := fun n => Classical.propDecidable _
  have hr := reduce_count (n := 4) (m := 512) (by decide) (chart a) natLt_1_32 reducesTo_S4x512_S4_d1 h_S_ e Q (fun q => by
    rw [chart_apply]
    constructor
    · intro hq
      refine ⟨q.isLt, ?_⟩
      by_contra hne
      rw [if_neg hne] at hq
      exact absurd hq (by decide)
    · rintro ⟨_, hq⟩
      rw [if_pos hq])
  have hc' : IntOp.cmpi .sle (Host.reduce IntOp.addi (extui 32 (chart a) natLt_1_32) (constantI shape0 32 0#32) reducesTo_S4x512_S4_d1 h_S_ (ix1 e)) 144#32 = 1#1 := hc
  rw [hr, sle_bit] at hc'
  have hle : Nat.count Q 512 ≤ 512 := Nat.count_le _
  have hT : total (chose a (BitVec.ofNat 32 e.val)) = Nat.count Q 512 := by
    rw [← card_filter_fin]
    refine congrArg Finset.card (Finset.filter_congr fun q _ => ?_)
    exact ⟨fun hq => ⟨q.isLt, hq⟩, fun hq => hq.2⟩
  rw [hT]
  by_contra hgt
  rw [toInt_small (by omega), if_neg] at hc'
  · exact absurd hc' (by decide)
  · rw [show (144#32 : BitVec 32).toInt = 144 from by decide]; omega

end Cert.Moe

end
-- ==== Proof.Ref.lean ====
/-
The reference's result read entry by entry: a token's row is the network of the expert it chose, on its own row, and
zero where it chose none of the four.
-/
module

public import proofs.«01_k».proof.Proof.Output
public import proofs.«01_k».proof.Proof.Gen.ReferenceIdeal
public import proofs.«01_k».proof.Proof.Gen.ReferenceIdeal.Run
public import Idealize.ShloMosaic.Lib.Routing.Ops
public import Idealize.ShloMosaic.Lib.StackMember

@[expose] public section

noncomputable section

namespace Cert.Moe.Whole

open Cert.ReferenceIdeal Cert.ReferenceIdeal.Gen Cert.ReferenceIdeal.Value

open Idealize.ShloMosaic
open Idealize.ShloMosaic.ValueIdx
open Idealize.ShloMosaic.Routing (bcRows bc0)
open scoped BigOperators

/-- Every token's bit of having chosen the expert of the word `w`, along its row. -/
def picked (a : IVec S1024 32) (w : BitVec 32) : IVec S1024x512 1 :=
  broadcastInDim S1024x512 ![0, 1] bcast_S1024x1_S1024x512_0_1 (broadcastInDim S1024x1 ![0] bcast_S1024_S1024x1_0
    (cmpi .eq a (broadcastInDim S1024 ![] bcast_S_S1024 (constantI S_ 32 w))))

theorem picked_apply (a : IVec S1024 32) (w : BitVec 32) (T : Fin 1024) (d : Fin 512) :
    picked a w (ix2 T d) = if a (ix1 T) = w then 1#1 else 0#1 := by
  have h := bcRows (n := 1024) (m := 512) bcast_S1024_S1024x1_0 bcast_S1024x1_S1024x512_0_1
    (cmpi .eq a (broadcastInDim S1024 ![] bcast_S_S1024 (constantI S_ 32 w))) T d
  have h0 : (broadcastInDim S1024 ![] bcast_S_S1024 (constantI S_ 32 w)) (ix1 T) = w :=
    bc0 (s := S1024) bcast_S_S1024 (constantI S_ 32 w) (ix1 T)
  refine Eq.trans (b := _) h ?_
  refine (congrArg (IntOp.cmpi .eq (a (ix1 T))) h0).trans ?_
  exact eq_bit _ _

/-- All tokens through the expert whose weights start at `o`. -/
def dense (o : ℕ) (h1 : S4x512x1024.Slices ![o, 0, 0] S1x512x1024) (h2 : S4x1024x512.Slices ![o, 0, 0] S1x1024x512)
    (x : FVec Ideal S1024x512 .bf16) (w1 : FVec Ideal S4x512x1024 .bf16) (w2 : FVec Ideal S4x1024x512 .bf16) : FVec Ideal S1024x512 .f32 :=
  Host.dotGeneral (φ₁ := .f32) (φ₂ := .f32) dot_S1024x1024_S1024x512_S1024x512_1_0_0_1_n_n none
    (maximumf (Host.dotGeneral (φ₁ := .f32) (φ₂ := .f32) dot_S1024x512_S512x1024_S1024x1024_1_0_0_1_n_n none (extf .f32 x bitsLt_bf16_f32)
      (shapeCast _ (extractStridedSlice S1x512x1024 ![o, 0, 0] (extf .f32 w1 bitsLt_bf16_f32) h1) shapeCasts_S1x512x1024_S512x1024))
      (broadcastInDim S1024x1024 ![] bcast_S_S1024x1024 (constant S_ .f32 0x00000000#32)))
    (shapeCast _ (extractStridedSlice S1x1024x512 ![o, 0, 0] (extf .f32 w2 bitsLt_bf16_f32) h2) shapeCasts_S1x1024x512_S1024x512)

theorem dense_apply (o : ℕ) (h1 : S4x512x1024.Slices ![o, 0, 0] S1x512x1024) (h2 : S4x1024x512.Slices ![o, 0, 0] S1x1024x512) (e : Fin 4) (he : o = e.val)
    (x : FVec Ideal S1024x512 .bf16) (w1 : FVec Ideal S4x512x1024 .bf16) (w2 : FVec Ideal S4x1024x512 .bf16) (T : Fin 1024) (d : Fin 512) :
    dense o h1 h2 x w1 w2 (ix2 T d)
      = expertRow (fun j k => w1 (ix3 e j k)) (fun k d => w2 (ix3 e k d)) d fun j => x (ix2 T j) := by
  have e1 : ∀ (j : Fin 512) (k : Fin 1024),
      shapeCast S512x1024 (extractStridedSlice S1x512x1024 ![o, 0, 0] (extf (F := Ideal) .f32 w1 bitsLt_bf16_f32) h1) shapeCasts_S1x512x1024_S512x1024 (ix2 j k)
        = w1 (ix3 e j k) := by
    intro j k
    refine (shapeCast_apply _ _ _ (ix3 (0 : Fin 1) j k) ?_).trans (extractStridedSlice_apply _ _ _ _ (ix3 e j k) fun x => ?_)
    · rw [Shape.rowMajor_val_two, Shape.rowMajor_val_three]
      show (0 * 512 + j.val) * 1024 + k.val = j.val * 1024 + k.val
      omega
    · match x with
      | ⟨0, _⟩ => exact he.symm
      | ⟨1, _⟩ => exact (Nat.zero_add _).symm
      | ⟨2, _⟩ => exact (Nat.zero_add _).symm
  have e2 : ∀ (k : Fin 1024) (d : Fin 512),
      shapeCast S1024x512 (extractStridedSlice S1x1024x512 ![o, 0, 0] (extf (F := Ideal) .f32 w2 bitsLt_bf16_f32) h2) shapeCasts_S1x1024x512_S1024x512 (ix2 k d)
        = w2 (ix3 e k d) := by
    intro k d
    refine (shapeCast_apply _ _ _ (ix3 (0 : Fin 1) k d) ?_).trans (extractStridedSlice_apply _ _ _ _ (ix3 e k d) fun x => ?_)
    · rw [Shape.rowMajor_val_two, Shape.rowMajor_val_three]
      show (0 * 1024 + k.val) * 512 + d.val = k.val * 512 + d.val
      omega
    · match x with
      | ⟨0, _⟩ => exact he.symm
      | ⟨1, _⟩ => exact (Nat.zero_add _).symm
      | ⟨2, _⟩ => exact (Nat.zero_add _).symm
  have hz : ∀ k : Fin 1024, (broadcastInDim S1024x1024 ![] bcast_S_S1024x1024 (constant (F := Ideal) S_ .f32 0x00000000#32)) (ix2 T k) = 0 := by
    intro k
    exact (bc0 (s := S1024x1024) bcast_S_S1024x1024 (constant (F := Ideal) S_ .f32 0x00000000#32) (ix2 T k)).trans Ideal.ofBits_zero_f32
  refine (StackMember.dotGeneral_plain_apply (m := 1024) (k := 1024) (n := 512) (φ₁ := .f32) (φ₂ := .f32) none _ _ T d).trans ?_
  refine Finset.sum_congr rfl fun k _ => ?_
  refine congrArg₂ (fun u v : EReal => u * v) ?_ (e2 k d)
  refine congrArg₂ max ?_ (hz k)
  refine (StackMember.dotGeneral_plain_apply (m := 1024) (k := 512) (n := 1024) (φ₁ := .f32) (φ₂ := .f32) none _ _ T k).trans ?_
  exact Finset.sum_congr rfl fun j _ => congrArg (fun v : EReal => x (ix2 T j) * v) (e1 j k)

/-- The whole result of the reference. -/
def result (x : FVec Ideal S1024x512 .bf16) (a : IVec S1024 32) (w1 : FVec Ideal S4x512x1024 .bf16) (w2 : FVec Ideal S4x1024x512 .bf16) : FVec Ideal S1024x512 .f32 :=
  select (picked a 3#32) (dense 3 slices_S4x512x1024_S1x512x1024_3_0_0 slices_S4x1024x512_S1x1024x512_3_0_0 x w1 w2)
  (select (picked a 2#32) (dense 2 slices_S4x512x1024_S1x512x1024_2_0_0 slices_S4x1024x512_S1x1024x512_2_0_0 x w1 w2)
  (select (picked a 1#32) (dense 1 slices_S4x512x1024_S1x512x1024_1_0_0 slices_S4x1024x512_S1x1024x512_1_0_0 x w1 w2)
  (select (picked a 0#32) (dense 0 slices_S4x512x1024_S1x512x1024_0_0_0 slices_S4x1024x512_S1x1024x512_0_0_0 x w1 w2)
    (broadcastInDim S1024x512 ![] bcast_S_S1024x512 (constant S_ .f32 0x00000000#32)))))

/-- A select on the bit of an equality is the choice by the equality. -/
theorem select_bit {α : Type} (p : Prop) [Decidable p] (u v : α) : Scalar.select (if p then 1#1 else 0#1) u v = if p then u else v := by
  by_cases h : p
  · rw [if_pos h, if_pos h, select_one]
  · rw [if_neg h, if_neg h, select_zero]

theorem result_apply (x : FVec Ideal S1024x512 .bf16) (a : IVec S1024 32) (w1 : FVec Ideal S4x512x1024 .bf16) (w2 : FVec Ideal S4x1024x512 .bf16)
    (T : Fin 1024) (d : Fin 512) (G : Fin 4 → EReal)
    (hG : ∀ e, G e = expertRow (fun j k => w1 (ix3 e j k)) (fun k d => w2 (ix3 e k d)) d fun j => x (ix2 T j)) :
    result x a w1 w2 (ix2 T d) = if a (ix1 T) = 3#32 then G 3 else if a (ix1 T) = 2#32 then G 2
      else if a (ix1 T) = 1#32 then G 1 else if a (ix1 T) = 0#32 then G 0 else 0 := by
  have hz : (broadcastInDim S1024x512 ![] bcast_S_S1024x512 (constant (F := Ideal) S_ .f32 0x00000000#32)) (ix2 T d) = 0 :=
    (bc0 (s := S1024x512) bcast_S_S1024x512 (constant (F := Ideal) S_ .f32 0x00000000#32) (ix2 T d)).trans Ideal.ofBits_zero_f32
  unfold result
  rw [select_apply, select_apply, select_apply, select_apply, picked_apply, picked_apply, picked_apply, picked_apply,
    select_bit, select_bit, select_bit, select_bit, hz,
    dense_apply 3 _ _ 3 rfl, dense_apply 2 _ _ 2 rfl, dense_apply 1 _ _ 1 rfl, dense_apply 0 _ _ 0 rfl, hG, hG, hG, hG]

/-- The reference's run ends at `result` of its arguments, which it keeps. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r =>
      r.2.mem (((0 : Dev nD).tc : Thread nD τ).loc main_v51)
        = result (m (((0 : Dev nD).tc : Thread nD τ).loc main_arg0)) (m (((0 : Dev nD).tc : Thread nD τ).loc main_arg1))
            (m (((0 : Dev nD).tc : Thread nD τ).loc main_arg2)) (m (((0 : Dev nD).tc : Thread nD τ).loc main_arg3))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3) :=
  (θ_run defs _ _).mono (fun _ h => h 0) (run m ρ)

end Cert.Moe.Whole

end
-- ==== Proof.Value.lean ====
/-
The kernel's result on a device is the device's block of the reference's result.
-/
module

public import proofs.«01_k».proof.Defs
public import proofs.«01_k».proof.Proof.Frames
public import proofs.«01_k».proof.Proof.Output
public import proofs.«01_k».proof.Proof.Fits
public import proofs.«01_k».proof.Proof.Ref

@[expose] public section

noncomputable section

namespace Cert.Moe

open Cert.KernelIdeal Cert.KernelIdeal.Gen

open Idealize.ShloMosaic
open Idealize.ShloMosaic.TcCoe
open Idealize.ShloMosaic.ValueIdx
open scoped BigOperators

/-! ## The arrays behind the windows -/

section Windows

variable (m : (ℓ : Loc nD τ sig) → Buf (Elt Ideal) ℓ) (ρ : Dev nD → PrngReg) (c : Dev nD)

theorem xv_eq : xv m ρ c = m ((c : Thread nD τ).loc main_arg0) :=
  Memref.read_access_unit_zero (Elt Ideal) main_arg0 (funext fun a => by fin_cases a <;> decide) (fun a => by fin_cases a <;> decide) _

theorem av_eq : av m ρ c = m ((c : Thread nD τ).loc main_arg1) :=
  Memref.read_access_unit_zero (Elt Ideal) main_arg1 (funext fun a => by fin_cases a <;> decide) (fun a => by fin_cases a <;> decide) _

theorem w1v_eq : w1v m ρ c = m ((c : Thread nD τ).loc main_arg2) :=
  Memref.read_access_unit_zero (Elt Ideal) main_arg2 (funext fun a => by fin_cases a <;> decide) (fun a => by fin_cases a <;> decide) _

theorem w2v_eq : w2v m ρ c = m ((c : Thread nD τ).loc main_arg3) :=
  Memref.read_access_unit_zero (Elt Ideal) main_arg3 (funext fun a => by fin_cases a <;> decide) (fun a => by fin_cases a <;> decide) _

/-- The result array after the run is what the body computed. -/
theorem finalA_4 : finalA m ρ c (4 : Fin 5) = outAt m ρ c := by
  have hr := fun f => Memref.read_access_unit_zero (Elt Ideal) main_v1 (off := fun a => (win0_4.index (0 : Fin 1)) a * main_v1.ty.shape.size a)
    (funext fun a => by fin_cases a <;> decide) (fun a => by fin_cases a <;> decide) f
  have h : (win0_4.blk (0 : Fin 1)).view.read (Elt Ideal) (finalA m ρ c (4 : Fin 5)) = outAt m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  exact (hr _).symm.trans h

/-- The weights of a device's expert `b` in its array of two. -/
theorem w10_apply (j : Fin 512) (k : Fin 1024) : up (w10 m ρ c) j k = w1v m ρ c (ix3 (0 : Fin 2) j k) :=
  congrArg (w1v m ρ c) (funext fun a => Fin.ext (by
    match a with
    | ⟨0, _⟩ => rfl
    | ⟨1, _⟩ => show 0 + 1 * j.val = j.val; omega
    | ⟨2, _⟩ => show 0 + 1 * k.val = k.val; omega))

theorem w11_apply (j : Fin 512) (k : Fin 1024) : up (w11 m ρ c) j k = w1v m ρ c (ix3 (1 : Fin 2) j k) :=
  congrArg (w1v m ρ c) (funext fun a => Fin.ext (by
    match a with
    | ⟨0, _⟩ => rfl
    | ⟨1, _⟩ => show 0 + 1 * j.val = j.val; omega
    | ⟨2, _⟩ => show 0 + 1 * k.val = k.val; omega))

theorem w20_apply (k : Fin 1024) (d : Fin 512) : down (w20 m ρ c) k d = w2v m ρ c (ix3 (0 : Fin 2) k d) :=
  congrArg (w2v m ρ c) (funext fun a => Fin.ext (by
    match a with
    | ⟨0, _⟩ => rfl
    | ⟨1, _⟩ => show 0 + 1 * k.val = k.val; omega
    | ⟨2, _⟩ => show 0 + 1 * d.val = d.val; omega))

theorem w21_apply (k : Fin 1024) (d : Fin 512) : down (w21 m ρ c) k d = w2v m ρ c (ix3 (1 : Fin 2) k d) :=
  congrArg (w2v m ρ c) (funext fun a => Fin.ext (by
    match a with
    | ⟨0, _⟩ => rfl
    | ⟨1, _⟩ => show 0 + 1 * k.val = k.val; omega
    | ⟨2, _⟩ => show 0 + 1 * d.val = d.val; omega))

end Windows

/-! ## Which half of the mesh -/

/-- The half of the mesh a device lies in. -/
def half (c : Dev nD) : Fin 2 := ⟨c.val / 8, by have h : c.val < 16 := c.isLt; omega⟩

theorem half_peer (c : Dev nD) : (half (peer c)).val = 1 - (half c).val := by
  revert c; decide

theorem base_half (c : Dev nD) : base c = BitVec.ofNat 32 (2 * (half c).val) := by
  revert c; decide

theorem pbase_half (c : Dev nD) : pbase c = BitVec.ofNat 32 (2 * (1 - (half c).val)) := by
  revert c; decide

/-- A device's row `t` in the whole arrays of tokens. -/
def row (c : Dev nD) (t : Fin 512) : Fin 1024 := ⟨(half c).val * 512 + t.val, by have := (half c).isLt; omega⟩

/-- A device's expert `b` in the whole arrays of weights. -/
def expert (c : Dev nD) (b : Fin 2) : Fin 4 := ⟨(half c).val * 2 + b.val, by have := (half c).isLt; omega⟩

/-- The mesh coordinate along the cut axis is the half. -/
theorem lin_half (c : Dev nD) : Layout.meshLin [2, 2, 4] c.val [0] = (half c).val := by
  revert c; decide

section Blocks

variable {α : Type} (c : Dev nD)

theorem block_rows (h) (v : (⟨2, ![1024, 512]⟩ : Shape).Idx → α) (t j : Fin 512) :
    Layout.blockN ⟨2, ![512, 512]⟩ ⟨2, ![1024, 512]⟩ (Layout.meshBlock [2, 2, 4] ![[0], []] c) v h (ix2 t j) = v (ix2 (row c t) j) := by
  refine congrArg v (funext fun a => Fin.ext ?_)
  match a with
  | ⟨0, _⟩ => show Layout.meshLin [2, 2, 4] c.val [0] * 512 + t.val = (half c).val * 512 + t.val; rw [lin_half]
  | ⟨1, _⟩ => show 0 * 512 + j.val = j.val; omega

theorem block_picks (h) (v : (⟨1, ![1024]⟩ : Shape).Idx → α) (t : Fin 512) :
    Layout.blockN ⟨1, ![512]⟩ ⟨1, ![1024]⟩ (Layout.meshBlock [2, 2, 4] ![[0]] c) v h (ix1 t) = v (ix1 (row c t)) := by
  refine congrArg v (funext fun a => Fin.ext ?_)
  match a with
  | ⟨0, _⟩ => show Layout.meshLin [2, 2, 4] c.val [0] * 512 + t.val = (half c).val * 512 + t.val; rw [lin_half]

theorem block_up (h) (v : (⟨3, ![4, 512, 1024]⟩ : Shape).Idx → α) (b : Fin 2) (j : Fin 512) (k : Fin 1024) :
    Layout.blockN ⟨3, ![2, 512, 1024]⟩ ⟨3, ![4, 512, 1024]⟩ (Layout.meshBlock [2, 2, 4] ![[0], [], []] c) v h (ix3 b j k) = v (ix3 (expert c b) j k) := by
  refine congrArg v (funext fun a => Fin.ext ?_)
  match a with
  | ⟨0, _⟩ => show Layout.meshLin [2, 2, 4] c.val [0] * 2 + b.val = (half c).val * 2 + b.val; rw [lin_half]
  | ⟨1, _⟩ => show 0 * 512 + j.val = j.val; omega
  | ⟨2, _⟩ => show 0 * 1024 + k.val = k.val; omega

theorem block_down (h) (v : (⟨3, ![4, 1024, 512]⟩ : Shape).Idx → α) (b : Fin 2) (k : Fin 1024) (d : Fin 512) :
    Layout.blockN ⟨3, ![2, 1024, 512]⟩ ⟨3, ![4, 1024, 512]⟩ (Layout.meshBlock [2, 2, 4] ![[0], [], []] c) v h (ix3 b k d) = v (ix3 (expert c b) k d) := by
  refine congrArg v (funext fun a => Fin.ext ?_)
  match a with
  | ⟨0, _⟩ => show Layout.meshLin [2, 2, 4] c.val [0] * 2 + b.val = (half c).val * 2 + b.val; rw [lin_half]
  | ⟨1, _⟩ => show 0 * 1024 + k.val = k.val; omega
  | ⟨2, _⟩ => show 0 * 512 + d.val = d.val; omega

end Blocks

/-- Four terms of which at most the chosen one counts are the nested choice, in either order of the halves. -/
theorem four_terms (g : Fin 2) (v : BitVec 32) (G : Fin 4 → EReal) (e0 e1 e2 e3 : Fin 4) (h0 : e0.val = g.val * 2) (h1 : e1.val = g.val * 2 + 1)
    (h2 : e2.val = (1 - g.val) * 2) (h3 : e3.val = (1 - g.val) * 2 + 1) :
    ((((if v = BitVec.ofNat 32 e0.val then G e0 else 0) + (if v = BitVec.ofNat 32 e1.val then G e1 else 0))
        + (if v = BitVec.ofNat 32 e2.val then G e2 else 0)) + (if v = BitVec.ofNat 32 e3.val then G e3 else 0) : EReal)
      = if v = 3#32 then G 3 else if v = 2#32 then G 2 else if v = 1#32 then G 1 else if v = 0#32 then G 0 else 0 := by
  have hg : g = 0 ∨ g = 1 := (by decide : ∀ g : Fin 2, g = 0 ∨ g = 1) g
  rcases hg with rfl | rfl
  · obtain rfl : e0 = 0 := Fin.ext h0
    obtain rfl : e1 = 1 := Fin.ext h1
    obtain rfl : e2 = 2 := Fin.ext h2
    obtain rfl : e3 = 3 := Fin.ext h3
    by_cases q3 : v = 3#32
    · subst q3; simp
    by_cases q2 : v = 2#32
    · subst q2; simp
    by_cases q1 : v = 1#32
    · subst q1; simp
    by_cases q0 : v = 0#32
    · subst q0; simp
    simp [q0, q1, q2, q3]
  · obtain rfl : e0 = 2 := Fin.ext h0
    obtain rfl : e1 = 3 := Fin.ext h1
    obtain rfl : e2 = 0 := Fin.ext h2
    obtain rfl : e3 = 1 := Fin.ext h3
    by_cases q3 : v = 3#32
    · subst q3; simp
    by_cases q2 : v = 2#32
    · subst q2; simp
    by_cases q1 : v = 1#32
    · subst q1; simp
    by_cases q0 : v = 0#32
    · subst q0; simp
    simp [q0, q1, q2, q3]

/-! ## The result -/

section Whole

variable (m : (ℓ : Loc nD τ sig) → Buf (Elt Ideal) ℓ) (ρ : Dev nD → PrngReg)
variable (A0 : FVec Ideal ⟨2, ![1024, 512]⟩ .bf16) (A1 : IVec ⟨1, ![1024]⟩ 32) (A2 : FVec Ideal ⟨3, ![4, 512, 1024]⟩ .bf16) (A3 : FVec Ideal ⟨3, ![4, 1024, 512]⟩ .bf16)

/-- One expert on one token of the whole arrays. -/
def whole (T : Fin 1024) (d : Fin 512) (e : Fin 4) : EReal :=
  expertRow (fun j k => A2 (ix3 e j k)) (fun k d => A3 (ix3 e k d)) d fun j => A0 (ix2 T j)

/-- What an expert adds to a token's entry, in terms of the whole arrays. -/
theorem part_eq (c c' : Dev nD) (b : Fin 2) (w : BitVec 32) (e : Fin 4) (hw : w = BitVec.ofNat 32 e.val) (he : e = expert c' b)
    (hx : ∀ t j, xv m ρ c (ix2 t j) = A0 (ix2 (row c t) j)) (ha : ∀ t, av m ρ c (ix1 t) = A1 (ix1 (row c t)))
    (w1 : Vec Ideal S1x512x1024 .bf16) (w2 : Vec Ideal S1x1024x512 .bf16)
    (h1 : ∀ j k, up w1 j k = A2 (ix3 (expert c' b) j k)) (h2 : ∀ k d, down w2 k d = A3 (ix3 (expert c' b) k d)) (t d : Fin 512) :
    part m ρ c (chose (av m ρ c) w t) w1 w2 t d
      = if A1 (ix1 (row c t)) = BitVec.ofNat 32 e.val then whole A0 A2 A3 (row c t) d e else 0 := by
  subst hw he
  unfold part whole
  refine if_congr (by rw [← ha]) ?_ rfl
  rw [show up w1 = _ from funext fun j => funext fun k => h1 j k, show down w2 = _ from funext fun k => funext fun d => h2 k d]
  exact congrArg _ (funext fun j => hx t j)

/-- A device's result is its block of the reference's. -/
theorem out_block (c : Dev nD)
    (hfit : ∀ e : Fin 4, total (chose (av m ρ c) (BitVec.ofNat 32 e.val)) ≤ 144)
    (hx : ∀ c t j, xv m ρ c (ix2 t j) = A0 (ix2 (row c t) j)) (ha : ∀ c t, av m ρ c (ix1 t) = A1 (ix1 (row c t)))
    (hw1 : ∀ c b j k, w1v m ρ c (ix3 b j k) = A2 (ix3 (expert c b) j k)) (hw2 : ∀ c b k d, w2v m ρ c (ix3 b k d) = A3 (ix3 (expert c b) k d))
    (t d : Fin 512) :
    outAt m ρ c (ix2 t d) = Whole.result A0 A1 A2 A3 (ix2 (row c t) d) := by
  have wb : ∀ b : Fin 2, word (base c) b = BitVec.ofNat 32 (expert c b).val := by
    intro b
    rw [word, base_half, ← BitVec.ofNat_add, Nat.mul_comm]
    rfl
  have wp : ∀ b : Fin 2, word (pbase c) b = BitVec.ofNat 32 (expert (peer c) b).val := by
    intro b
    rw [word, pbase_half, ← BitVec.ofNat_add, Nat.mul_comm, ← half_peer]
    rfl
  have fit : ∀ (e : Fin 4) (t : Fin 512), chose (av m ρ c) (BitVec.ofNat 32 e.val) t → rank (chose (av m ρ c) (BitVec.ofNat 32 e.val)) t < 144 :=
    fun e t ht => lt_of_lt_of_le (rank_lt_total ht) (hfit e)
  rw [outAt_apply m ρ c (fun b t => by rw [wb]; exact fit _ t) (fun b t => by rw [wp]; exact fit _ t),
    Whole.result_apply A0 A1 A2 A3 (row c t) d (whole A0 A2 A3 (row c t) d) (fun e => rfl),
    ← four_terms (half c) (A1 (ix1 (row c t))) (whole A0 A2 A3 (row c t) d) (expert c 0) (expert c 1) (expert (peer c) 0) (expert (peer c) 1)
      rfl rfl (by rw [← half_peer]; rfl) (by rw [← half_peer]; rfl)]
  exact congrArg₂ (fun u v : EReal => u + v) (congrArg₂ (fun u v : EReal => u + v) (congrArg₂ (fun u v : EReal => u + v)
    (part_eq m ρ A0 A1 A2 A3 c c 0 _ _ (wb 0) rfl (hx c) (ha c) _ _ (fun j k => (w10_apply m ρ c j k).trans (hw1 c 0 j k)) (fun k d => (w20_apply m ρ c k d).trans (hw2 c 0 k d)) t d)
    (part_eq m ρ A0 A1 A2 A3 c c 1 _ _ (wb 1) rfl (hx c) (ha c) _ _ (fun j k => (w11_apply m ρ c j k).trans (hw1 c 1 j k)) (fun k d => (w21_apply m ρ c k d).trans (hw2 c 1 k d)) t d))
    (part_eq m ρ A0 A1 A2 A3 c (peer c) 0 _ _ (wp 0) rfl (hx c) (ha c) _ _ (fun j k => (w10_apply m ρ (peer c) j k).trans (hw1 (peer c) 0 j k)) (fun k d => (w20_apply m ρ (peer c) k d).trans (hw2 (peer c) 0 k d)) t d))
    (part_eq m ρ A0 A1 A2 A3 c (peer c) 1 _ _ (wp 1) rfl (hx c) (ha c) _ _ (fun j k => (w11_apply m ρ (peer c) j k).trans (hw1 (peer c) 1 j k)) (fun k d => (w21_apply m ρ (peer c) k d).trans (hw2 (peer c) 1 k d)) t d)

end Whole

/-- The kernel and the reference compute the same result: started on blocks of the same arrays, on which every expert's
    tokens fit, each device ends with its block of the reference's result. -/
theorem algebraic : Cert.algebraic_KernelIdeal_ReferenceIdeal_pre_fits_KernelIdeal := by
  intro m ρ m' ρ' hpre hagree
  refine ⟨_, (θ_run Cert.KernelIdeal.defs _ _).mono (fun r h c => ⟨((h.1 c).1.trans ?_), (h.1 c).2⟩) (run_any m ρ),
    Whole.run_result m' ρ'⟩
  rw [finalA_4]
  funext i
  obtain ⟨t, d, rfl⟩ : ∃ t d : Fin 512, i = ix2 t d := ⟨i 0, i 1, eq_ix2 i⟩
  refine Eq.trans ?_ (block_rows c _ _ t d).symm
  refine out_block m ρ _ _ _ _ c (fun e => ?_) (fun c t j => ?_) (fun c t => ?_) (fun c b j k => ?_) (fun c b k d => ?_) _ _
  · rw [av_eq]
    exact fits_total _ _ _ _ (hpre c) e
  · rw [xv_eq]
    exact (congrFun (hagree c).1 (ix2 t j)).trans (block_rows c _ _ t j)
  · rw [av_eq]
    exact (congrFun (hagree c).2.1 (ix1 t)).trans (block_picks c _ _ t)
  · rw [w1v_eq]
    exact (congrFun (hagree c).2.2.1 (ix3 b j k)).trans (block_up c _ _ b j k)
  · rw [w2v_eq]
    exact (congrFun (hagree c).2.2.2 (ix3 b k d)).trans (block_down c _ _ b k d)

end Cert.Moe

end
-- ==== Proof.lean ====
/-
The claims: the frames of the three programs and the kernel's value against the reference.
-/
module

public import proofs.«01_k».proof.Proof.Frames
public import proofs.«01_k».proof.Proof.Value
public import proofs.«01_k».proof.Proof.Gen.ReferenceIdeal.Run

@[expose] public section

noncomputable section

namespace Cert.Proof

/-- Everything claimed. -/
theorem claim : Cert.Claim := ⟨Cert.Kernel.Gen.facts, Cert.KernelIdeal.Gen.facts, Cert.ReferenceIdeal.Gen.facts,
  Cert.Pre_fits_KernelIdeal.Gen.facts, Cert.Pre_fits_ReferenceIdeal.Gen.facts,
  Cert.Moe.frame_kernel, Cert.Moe.frame_ideal, Cert.Moe.frame_ideal_fits, Cert.Moe.frame_reference, Cert.Moe.frame_reference_fits,
  trivial, Cert.Moe.algebraic⟩

end Cert.Proof

end
